-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ties_show [hPre_ties_show : Cert.Pre_ties_show.Facts] (m : (ℓ : Loc Cert.KernelIdeal.nD Cert.KernelIdeal.τ Cert.KernelIdeal.sig) → Buf (Elt Ideal) ℓ) : Prop :=
  ∀ c : Dev Cert.KernelIdeal.nD,
    (Cert.Pre_ties_show.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ties_show [hPre_ties_show : Cert.Pre_ties_show.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ties_show.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ties_show [hKernelIdeal : Cert.KernelIdeal.Facts] [hPre_ties_show : Cert.Pre_ties_show.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ties_show m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ties_show [hReferenceIdeal : Cert.ReferenceIdeal.Facts] [hPre_ties_show : Cert.Pre_ties_show.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ties_show m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_ties_show [hKernelIdeal : Cert.KernelIdeal.Facts] [hReferenceIdeal : Cert.ReferenceIdeal.Facts] [hPre_ties_show : Cert.Pre_ties_show.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ties_show m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ties_show : Cert.Pre_ties_show.Facts),
    quiescent_Kernel (hKernel := hKernel)
    ∧ quiescent_KernelIdeal (hKernelIdeal := hKernelIdeal)
    ∧ quiescent_KernelIdeal_pre_ties_show (hKernelIdeal := hKernelIdeal) (hPre_ties_show := hPre_ties_show)
    ∧ quiescent_ReferenceIdeal (hReferenceIdeal := hReferenceIdeal)
    ∧ quiescent_ReferenceIdeal_pre_ties_show (hReferenceIdeal := hReferenceIdeal) (hPre_ties_show := hPre_ties_show)
    ∧ preserves_Kernel_KernelIdeal
    ∧ algebraic_KernelIdeal_ReferenceIdeal_pre_ties_show (hKernelIdeal := hKernelIdeal) (hReferenceIdeal := hReferenceIdeal) (hPre_ties_show := hPre_ties_show)
-- ==== Pre_ties_show.lean ====
abbrev S8x3x4096 : Shape := ⟨3, ![8, 3, 4096]⟩
abbrev S8x3x1024 : Shape := ⟨3, ![8, 3, 1024]⟩
abbrev S8x256x4096 : Shape := ⟨3, ![8, 256, 4096]⟩
abbrev S8x512x1024 : Shape := ⟨3, ![8, 512, 1024]⟩
abbrev S256x768 : Shape := ⟨2, ![256, 768]⟩
abbrev S256 : Shape := ⟨1, ![256]⟩
abbrev S256x256 : Shape := ⟨2, ![256, 256]⟩
abbrev S_ : Shape := ⟨0, ![]⟩
abbrev S8x4096 : Shape := ⟨2, ![8, 4096]⟩
abbrev S8x1024 : Shape := ⟨2, ![8, 1024]⟩
abbrev S8x4096x1024 : Shape := ⟨3, ![8, 4096, 1024]⟩
abbrev S8x4096x1 : Shape := ⟨3, ![8, 4096, 1]⟩
abbrev S8x1x1024 : Shape := ⟨3, ![8, 1, 1024]⟩
abbrev S8x4096x4 : Shape := ⟨3, ![8, 4096, 4]⟩

class Facts : Prop where
  reducesTo_S8x3x4096_S8x4096_d1 : S8x3x4096.ReducesTo [1] S8x4096
  h_S_ : 0 < S_.numel
  reducesTo_S8x3x1024_S8x1024_d1 : S8x3x1024.ReducesTo [1] S8x1024
  bcast_S8x4096_S8x4096x1_0_1 : S8x4096.BroadcastsInDim S8x4096x1 (![0, 1] : Fin 2 → Fin S8x4096x1.rank)
  bcast_S8x1024_S8x1x1024_0_2 : S8x1024.BroadcastsInDim S8x1x1024 (![0, 2] : Fin 2 → Fin S8x1x1024.rank)
  bcast_S8x4096x1_S8x4096x1024_0_1_2 : S8x4096x1.BroadcastsInDim S8x4096x1024 (![0, 1, 2] : Fin 3 → Fin S8x4096x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  sliceFits_S8x4096x1024_S8x4096x4 : S8x4096x1024.Slices (fun _ => 0) S8x4096x4
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_1 : S8x4096x4.Slices ![0, 0, 1] S8x4096x1
  slices_S8x4096x4_S8x4096x1_0_0_2 : S8x4096x4.Slices ![0, 0, 2] S8x4096x1
  slices_S8x4096x4_S8x4096x1_0_0_3 : S8x4096x4.Slices ![0, 0, 3] S8x4096x1
  bcast_S_S8x4096 : S_.BroadcastsInDim S8x4096 (![] : Fin 0 → Fin S8x4096.rank)
  reducesTo_S8x4096_S_d0_1 : S8x4096.ReducesTo [0, 1] S_
  bcast_S_S8x3x4096 : S_.BroadcastsInDim S8x3x4096 (![] : Fin 0 → Fin S8x3x4096.rank)
  reducesTo_S8x3x4096_S_d0_1_2 : S8x3x4096.ReducesTo [0, 1, 2] S_
  bcast_S_S8x3x1024 : S_.BroadcastsInDim S8x3x1024 (![] : Fin 0 → Fin S8x3x1024.rank)
  reducesTo_S8x3x1024_S_d0_1_2 : S8x3x1024.ReducesTo [0, 1, 2] S_
  bcast_S_S8x256x4096 : S_.BroadcastsInDim S8x256x4096 (![] : Fin 0 → Fin S8x256x4096.rank)
  reducesTo_S8x256x4096_S_d0_1_2 : S8x256x4096.ReducesTo [0, 1, 2] S_
  bcast_S_S8x512x1024 : S_.BroadcastsInDim S8x512x1024 (![] : Fin 0 → Fin S8x512x1024.rank)
  reducesTo_S8x512x1024_S_d0_1_2 : S8x512x1024.ReducesTo [0, 1, 2] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  dot_S8x3x4096_S8x3x1024_S8x4096x1024_1_1_2_2_0_0_wf : DotDims.WF S8x3x4096 S8x3x1024 S8x4096x1024 [1] [1] [2] [2] [0] [0]

variable [Facts]

def dot_S8x3x4096_S8x3x1024_S8x4096x1024_1_1_2_2_0_0 : DotDims S8x3x4096 S8x3x1024 S8x4096x1024 where
  lhsContracting := [1]
  rhsContracting := [1]
  lhsNonContracting := [2]
  rhsNonContracting := [2]
  lhsBatch := [0]
  rhsBatch := [0]
  wf := dot_S8x3x4096_S8x3x1024_S8x4096x1024_1_1_2_2_0_0_wf
def fn_part5 {F : FTy → Type} [FloatOps F] (main_arg7 : FVec F S256x256 .f32) (main_arg8 : FVec F S256 .f32) (main_v53 : IVec S_ 1) (main_v88 : IVec S_ 1) : IVec S_ 1 :=
  let main_v89 : FVec F S256x256 .f32 := Host.absf main_arg7
  let main_cst_27 : FVec F S_ .f32 := constant S_ .f32 0x7F800000#32
  let main_v90 : FVec F S256x256 .f32 := broadcastInDim S256x256 ![] bcast_S_S256x256 main_cst_27
  let main_v91 : IVec S256x256 1 := cmpf .olt main_v89 main_v90
  let main_c_28 : IVec S_ 1 := constantI S_ 1 1#1
  let main_v92 : IVec S_ 1 := (fun x v => Host.reduce IntOp.andi x v reducesTo_S256x256_S_d0_1 h_S_) main_v91 main_c_28
  let main_v93 : IVec S_ 1 := andi main_v88 main_v92
  let main_v94 : FVec F S256 .f32 := Host.absf main_arg8
  let main_cst_29 : FVec F S_ .f32 := constant S_ .f32 0x7F800000#32
  let main_v95 : FVec F S256 .f32 := broadcastInDim S256 ![] bcast_S_S256 main_cst_29
  let main_v96 : IVec S256 1 := cmpf .olt main_v94 main_v95
  let main_c_30 : IVec S_ 1 := constantI S_ 1 1#1
  let main_v97 : IVec S_ 1 := (fun x v => Host.reduce IntOp.andi x v reducesTo_S256_S_d0 h_S_) main_v96 main_c_30
  let main_v98 : IVec S_ 1 := andi main_v93 main_v97
  let main_v99 : IVec S_ 1 := andi main_v53 main_v98
  main_v99

def fn_part4 {F : FTy → Type} [FloatOps F] (main_arg4 : FVec F S256x768 .f32) (main_arg5 : FVec F S256 .f32) (main_arg6 : FVec F S256 .f32) (main_arg7 : FVec F S256x256 .f32) (main_arg8 : FVec F S256 .f32) (main_v53 : IVec S_ 1) (main_v68 : IVec S_ 1) (main_v71 : IVec S8x512x1024 1) : IVec S_ 1 :=
  let main_c_20 : IVec S_ 1 := constantI S_ 1 1#1
  let main_v72 : IVec S_ 1 := (fun x v => Host.reduce IntOp.andi x v reducesTo_S8x512x1024_S_d0_1_2 h_S_) main_v71 main_c_20
  let main_v73 : IVec S_ 1 := andi main_v68 main_v72
  let main_v74 : FVec F S256x768 .f32 := Host.absf main_arg4
  let main_cst_21 : FVec F S_ .f32 := constant S_ .f32 0x7F800000#32
  let main_v75 : FVec F S256x768 .f32 := broadcastInDim S256x768 ![] bcast_S_S256x768 main_cst_21
  let main_v76 : IVec S256x768 1 := cmpf .olt main_v74 main_v75
  let main_c_22 : IVec S_ 1 := constantI S_ 1 1#1
  let main_v77 : IVec S_ 1 := (fun x v => Host.reduce IntOp.andi x v reducesTo_S256x768_S_d0_1 h_S_) main_v76 main_c_22
  let main_v78 : IVec S_ 1 := andi main_v73 main_v77
  let main_v79 : FVec F S256 .f32 := Host.absf main_arg5
  let main_cst_23 : FVec F S_ .f32 := constant S_ .f32 0x7F800000#32
  let main_v80 : FVec F S256 .f32 := broadcastInDim S256 ![] bcast_S_S256 main_cst_23
  let main_v81 : IVec S256 1 := cmpf .olt main_v79 main_v80
  let main_c_24 : IVec S_ 1 := constantI S_ 1 1#1
  let main_v82 : IVec S_ 1 := (fun x v => Host.reduce IntOp.andi x v reducesTo_S256_S_d0 h_S_) main_v81 main_c_24
  let main_v83 : IVec S_ 1 := andi main_v78 main_v82
  let main_v84 : FVec F S256 .f32 := Host.absf main_arg6
  let main_cst_25 : FVec F S_ .f32 := constant S_ .f32 0x7F800000#32
  let main_v85 : FVec F S256 .f32 := broadcastInDim S256 ![] bcast_S_S256 main_cst_25
  let main_v86 : IVec S256 1 := cmpf .olt main_v84 main_v85
  let main_c_26 : IVec S_ 1 := constantI S_ 1 1#1
  let main_v87 : IVec S_ 1 := (fun x v => Host.reduce IntOp.andi x v reducesTo_S256_S_d0 h_S_) main_v86 main_c_26
  let main_v88 : IVec S_ 1 := andi main_v83 main_v87
  fn_part5 (F := F) main_arg7 main_arg8 main_v53 main_v88

def fn_part3 {F : FTy → Type} [FloatOps F] (main_arg1 : FVec F S8x3x1024 .f32) (main_arg2 : FVec F S8x256x4096 .f32) (main_arg3 : FVec F S8x512x1024 .f32) (main_arg4 : FVec F S256x768 .f32) (main_arg5 : FVec F S256 .f32) (main_arg6 : FVec F S256 .f32) (main_arg7 : FVec F S256x256 .f32) (main_arg8 : FVec F S256 .f32) (main_v53 : IVec S_ 1) (main_v54 : FVec F S8x3x4096 .f32) (main_cst_12 : FVec F S_ .f32) : IVec S_ 1 :=
  let main_v55 : FVec F S8x3x4096 .f32 := broadcastInDim S8x3x4096 ![] bcast_S_S8x3x4096 main_cst_12
  let main_v56 : IVec S8x3x4096 1 := cmpf .olt main_v54 main_v55
  let main_c_13 : IVec S_ 1 := constantI S_ 1 1#1
  let main_v57 : IVec S_ 1 := (fun x v => Host.reduce IntOp.andi x v reducesTo_S8x3x4096_S_d0_1_2 h_S_) main_v56 main_c_13
  let main_c_14 : IVec S_ 1 := constantI S_ 1 1#1
  let main_v58 : IVec S_ 1 := andi main_c_14 main_v57
  let main_v59 : FVec F S8x3x1024 .f32 := Host.absf main_arg1
  let main_cst_15 : FVec F S_ .f32 := constant S_ .f32 0x7F800000#32
  let main_v60 : FVec F S8x3x1024 .f32 := broadcastInDim S8x3x1024 ![] bcast_S_S8x3x1024 main_cst_15
  let main_v61 : IVec S8x3x1024 1 := cmpf .olt main_v59 main_v60
  let main_c_16 : IVec S_ 1 := constantI S_ 1 1#1
  let main_v62 : IVec S_ 1 := (fun x v => Host.reduce IntOp.andi x v reducesTo_S8x3x1024_S_d0_1_2 h_S_) main_v61 main_c_16
  let main_v63 : IVec S_ 1 := andi main_v58 main_v62
  let main_v64 : FVec F S8x256x4096 .f32 := Host.absf main_arg2
  let main_cst_17 : FVec F S_ .f32 := constant S_ .f32 0x7F800000#32
  let main_v65 : FVec F S8x256x4096 .f32 := broadcastInDim S8x256x4096 ![] bcast_S_S8x256x4096 main_cst_17
  let main_v66 : IVec S8x256x4096 1 := cmpf .olt main_v64 main_v65
  let main_c_18 : IVec S_ 1 := constantI S_ 1 1#1
  let main_v67 : IVec S_ 1 := (fun x v => Host.reduce IntOp.andi x v reducesTo_S8x256x4096_S_d0_1_2 h_S_) main_v66 main_c_18
  let main_v68 : IVec S_ 1 := andi main_v63 main_v67
  let main_v69 : FVec F S8x512x1024 .f32 := Host.absf main_arg3
  let main_cst_19 : FVec F S_ .f32 := constant S_ .f32 0x7F800000#32
  let main_v70 : FVec F S8x512x1024 .f32 := broadcastInDim S8x512x1024 ![] bcast_S_S8x512x1024 main_cst_19
  let main_v71 : IVec S8x512x1024 1 := cmpf .olt main_v69 main_v70
  fn_part4 (F := F) main_arg4 main_arg5 main_arg6 main_arg7 main_arg8 main_v53 main_v68 main_v71

def fn_part2 {F : FTy → Type} [FloatOps F] (main_arg0 : FVec F S8x3x4096 .f32) (main_arg1 : FVec F S8x3x1024 .f32) (main_arg2 : FVec F S8x256x4096 .f32) (main_arg3 : FVec F S8x512x1024 .f32) (main_arg4 : FVec F S256x768 .f32) (main_arg5 : FVec F S256 .f32) (main_arg6 : FVec F S256 .f32) (main_arg7 : FVec F S256x256 .f32) (main_arg8 : FVec F S256 .f32) (main_v19 : FVec F S8x4096 .f32) (main_v22 : FVec F S8x4096 .f32) (main_v25 : FVec F S8x4096 .f32) (main_v31 : FVec F S8x4096 .f32) (main_v35 : FVec F S8x4096 .f32) (main_v36 : FVec F S8x4096 .f32) : IVec S_ 1 :=
  let main_v37 : FVec F S8x4096 .f32 := Host.divf main_v36 main_v35
  let main_cst_8 : FVec F S_ .f32 := constant S_ .f32 0x00000000#32
  let main_v38 : FVec F S8x4096 .f32 := broadcastInDim S8x4096 ![] bcast_S_S8x4096 main_cst_8
  let main_v39 : FVec F S8x4096 .f32 := maximumf main_v22 main_v38
  let main_cst_9 : FVec F S_ .f32 := constant S_ .f32 0x2EDBE6FF#32
  let main_v40 : FVec F S8x4096 .f32 := broadcastInDim S8x4096 ![] bcast_S_S8x4096 main_cst_9
  let main_v41 : FVec F S8x4096 .f32 := maximumf main_v39 main_v40
  let main_cst_10 : FVec F S_ .f32 := constant S_ .f32 0x3F800000#32
  let main_v42 : FVec F S8x4096 .f32 := broadcastInDim S8x4096 ![] bcast_S_S8x4096 main_cst_10
  let main_v43 : FVec F S8x4096 .f32 := Host.divf main_v42 main_v41
  let main_v44 : FVec F S8x4096 .f32 := addf main_v31 main_v37
  let main_v45 : FVec F S8x4096 .f32 := addf main_v44 main_v43
  let main_v46 : FVec F S8x4096 .f32 := Host.divf main_v43 main_v45
  let main_cst_11 : FVec F S_ .f32 := constant S_ .f32 0x3A83126F#32
  let main_v47 : FVec F S8x4096 .f32 := broadcastInDim S8x4096 ![] bcast_S_S8x4096 main_cst_11
  let main_v48 : IVec S8x4096 1 := cmpf .ogt main_v46 main_v47
  let main_v49 : IVec S8x4096 1 := cmpf .olt main_v19 main_v22
  let main_v50 : IVec S8x4096 1 := cmpf .olt main_v22 main_v25
  let main_v51 : IVec S8x4096 1 := andi main_v49 main_v50
  let main_v52 : IVec S8x4096 1 := ori main_v51 main_v48
  let main_c : IVec S_ 1 := constantI S_ 1 1#1
  let main_v53 : IVec S_ 1 := (fun x v => Host.reduce IntOp.andi x v reducesTo_S8x4096_S_d0_1 h_S_) main_v52 main_c
  let main_v54 : FVec F S8x3x4096 .f32 := Host.absf main_arg0
  let main_cst_12 : FVec F S_ .f32 := constant S_ .f32 0x7F800000#32
  fn_part3 (F := F) main_arg1 main_arg2 main_arg3 main_arg4 main_arg5 main_arg6 main_arg7 main_arg8 main_v53 main_v54 main_cst_12

def fn_part1 {F : FTy → Type} [FloatOps F] (main_arg0 : FVec F S8x3x4096 .f32) (main_arg1 : FVec F S8x3x1024 .f32) (main_arg2 : FVec F S8x256x4096 .f32) (main_arg3 : FVec F S8x512x1024 .f32) (main_arg4 : FVec F S256x768 .f32) (main_arg5 : FVec F S256 .f32) (main_arg6 : FVec F S256 .f32) (main_arg7 : FVec F S256x256 .f32) (main_arg8 : FVec F S256 .f32) (main_values : FVec F S8x4096x4 .f32) (main_v16 : FVec F S8x4096 .f32) (main_v18 : FVec F S8x4096 .f32) : IVec S_ 1 :=
  let main_v19 : FVec F S8x4096 .f32 := Host.negf main_v18
  let main_v20 : FVec F S8x4096x1 .f32 := (extractStridedSlice S8x4096x1 ![0, 0, 2] · slices_S8x4096x4_S8x4096x1_0_0_2) main_values
  let main_v21 : FVec F S8x4096 .f32 := shapeCast S8x4096 main_v20 shapeCasts_S8x4096x1_S8x4096
  let main_v22 : FVec F S8x4096 .f32 := Host.negf main_v21
  let main_v23 : FVec F S8x4096x1 .f32 := (extractStridedSlice S8x4096x1 ![0, 0, 3] · slices_S8x4096x4_S8x4096x1_0_0_3) main_values
  let main_v24 : FVec F S8x4096 .f32 := shapeCast S8x4096 main_v23 shapeCasts_S8x4096x1_S8x4096
  let main_v25 : FVec F S8x4096 .f32 := Host.negf main_v24
  let main_cst_2 : FVec F S_ .f32 := constant S_ .f32 0x00000000#32
  let main_v26 : FVec F S8x4096 .f32 := broadcastInDim S8x4096 ![] bcast_S_S8x4096 main_cst_2
  let main_v27 : FVec F S8x4096 .f32 := maximumf main_v16 main_v26
  let main_cst_3 : FVec F S_ .f32 := constant S_ .f32 0x2EDBE6FF#32
  let main_v28 : FVec F S8x4096 .f32 := broadcastInDim S8x4096 ![] bcast_S_S8x4096 main_cst_3
  let main_v29 : FVec F S8x4096 .f32 := maximumf main_v27 main_v28
  let main_cst_4 : FVec F S_ .f32 := constant S_ .f32 0x3F800000#32
  let main_v30 : FVec F S8x4096 .f32 := broadcastInDim S8x4096 ![] bcast_S_S8x4096 main_cst_4
  let main_v31 : FVec F S8x4096 .f32 := Host.divf main_v30 main_v29
  let main_cst_5 : FVec F S_ .f32 := constant S_ .f32 0x00000000#32
  let main_v32 : FVec F S8x4096 .f32 := broadcastInDim S8x4096 ![] bcast_S_S8x4096 main_cst_5
  let main_v33 : FVec F S8x4096 .f32 := maximumf main_v19 main_v32
  let main_cst_6 : FVec F S_ .f32 := constant S_ .f32 0x2EDBE6FF#32
  let main_v34 : FVec F S8x4096 .f32 := broadcastInDim S8x4096 ![] bcast_S_S8x4096 main_cst_6
  let main_v35 : FVec F S8x4096 .f32 := maximumf main_v33 main_v34
  let main_cst_7 : FVec F S_ .f32 := constant S_ .f32 0x3F800000#32
  let main_v36 : FVec F S8x4096 .f32 := broadcastInDim S8x4096 ![] bcast_S_S8x4096 main_cst_7
  fn_part2 (F := F) main_arg0 main_arg1 main_arg2 main_arg3 main_arg4 main_arg5 main_arg6 main_arg7 main_arg8 main_v19 main_v22 main_v25 main_v31 main_v35 main_v36

def fn {F : FTy → Type} [FloatOps F] (main_arg0 : FVec F S8x3x4096 .f32) (main_arg1 : FVec F S8x3x1024 .f32) (main_arg2 : FVec F S8x256x4096 .f32) (main_arg3 : FVec F S8x512x1024 .f32) (main_arg4 : FVec F S256x768 .f32) (main_arg5 : FVec F S256 .f32) (main_arg6 : FVec F S256 .f32) (main_arg7 : FVec F S256x256 .f32) (main_arg8 : FVec F S256 .f32) (main_arg9 : FVec F S256 .f32) : IVec S_ 1 :=
  let main_v0 : FVec F S8x3x4096 .f32 := mulf main_arg0 main_arg0
  let main_cst : FVec F S_ .f32 := constant S_ .f32 0x00000000#32
  let main_v1 : FVec F S8x4096 .f32 := (fun x v => Host.reduceAdd x v reducesTo_S8x3x4096_S8x4096_d1 h_S_) main_v0 main_cst
  let main_v2 : FVec F S8x3x1024 .f32 := mulf main_arg1 main_arg1
  let main_cst_0 : FVec F S_ .f32 := constant S_ .f32 0x00000000#32
  let main_v3 : FVec F S8x1024 .f32 := (fun x v => Host.reduceAdd x v reducesTo_S8x3x1024_S8x1024_d1 h_S_) main_v2 main_cst_0
  let main_v4 : FVec F S8x4096x1024 .f32 := (fun l r => Host.dotGeneral dot_S8x3x4096_S8x3x1024_S8x4096x1024_1_1_2_2_0_0 none l r) main_arg0 main_arg1
  let main_v5 : FVec F S8x4096x1 .f32 := broadcastInDim S8x4096x1 ![0, 1] bcast_S8x4096_S8x4096x1_0_1 main_v1
  let main_v6 : FVec F S8x1x1024 .f32 := broadcastInDim S8x1x1024 ![0, 2] bcast_S8x1024_S8x1x1024_0_2 main_v3
  let main_v7 : FVec F S8x4096x1024 .f32 := broadcastInDim S8x4096x1024 ![0, 1, 2] bcast_S8x4096x1_S8x4096x1024_0_1_2 main_v5
  let main_v8 : FVec F S8x4096x1024 .f32 := broadcastInDim S8x4096x1024 ![0, 1, 2] bcast_S8x1x1024_S8x4096x1024_0_1_2 main_v6
  let main_v9 : FVec F S8x4096x1024 .f32 := addf main_v7 main_v8
  let main_cst_1 : FVec F S_ .f32 := constant S_ .f32 0x40000000#32
  let main_v10 : FVec F S8x4096x1024 .f32 := broadcastInDim S8x4096x1024 ![] bcast_S_S8x4096x1024 main_cst_1
  let main_v11 : FVec F S8x4096x1024 .f32 := mulf main_v10 main_v4
  let main_v12 : FVec F S8x4096x1024 .f32 := subf main_v9 main_v11
  let main_v13 : FVec F S8x4096x1024 .f32 := Host.negf main_v12
  let main_values : FVec F S8x4096x4 .f32 := (fun x => (Host.topK S8x4096x4 2 (FloatOps.cmpfTotal .gt) x sliceFits_S8x4096x1024_S8x4096x4).1) main_v13
  let main_indices : IVec S8x4096x4 32 := (fun x => (Host.topK S8x4096x4 2 (FloatOps.cmpfTotal .gt) x sliceFits_S8x4096x1024_S8x4096x4).2) main_v13
  let main_v14 : FVec F S8x4096x1 .f32 := (extractStridedSlice S8x4096x1 ![0, 0, 0] · slices_S8x4096x4_S8x4096x1_0_0_0) main_values
  let main_v15 : FVec F S8x4096 .f32 := shapeCast S8x4096 main_v14 shapeCasts_S8x4096x1_S8x4096
  let main_v16 : FVec F S8x4096 .f32 := Host.negf main_v15
  let main_v17 : FVec F S8x4096x1 .f32 := (extractStridedSlice S8x4096x1 ![0, 0, 1] · slices_S8x4096x4_S8x4096x1_0_0_1) main_values
  let main_v18 : FVec F S8x4096 .f32 := shapeCast S8x4096 main_v17 shapeCasts_S8x4096x1_S8x4096
  fn_part1 (F := F) main_arg0 main_arg1 main_arg2 main_arg3 main_arg4 main_arg5 main_arg6 main_arg7 main_arg8 main_values main_v16 main_v18
-- ==== Kernel.lean ====
abbrev S8x3x4096 : Shape := ⟨3, ![8, 3, 4096]⟩
abbrev S8x3x1024 : Shape := ⟨3, ![8, 3, 1024]⟩
abbrev S8x256x4096 : Shape := ⟨3, ![8, 256, 4096]⟩
abbrev S8x512x1024 : Shape := ⟨3, ![8, 512, 1024]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S256x1 : Shape := ⟨2, ![256, 1]⟩
abbrev S256x2 : Shape := ⟨2, ![256, 2]⟩
abbrev S1x3x512 : Shape := ⟨3, ![1, 3, 512]⟩
abbrev S1x3x1024 : Shape := ⟨3, ![1, 3, 1024]⟩
abbrev S1x256x512 : Shape := ⟨3, ![1, 256, 512]⟩
abbrev S1x512x1024 : Shape := ⟨3, ![1, 512, 1024]⟩
abbrev S256x1024 : Shape := ⟨2, ![256, 1024]⟩
abbrev S512x1024 : Shape := ⟨2, ![512, 1024]⟩
abbrev S3x512 : Shape := ⟨2, ![3, 512]⟩
abbrev S3x1024 : Shape := ⟨2, ![3, 1024]⟩
abbrev S1024 : Shape := ⟨1, ![1024]⟩
abbrev S1x1024 : Shape := ⟨2, ![1, 1024]⟩
abbrev S3x8 : Shape := ⟨2, ![3, 8]⟩
abbrev S512x8 : Shape := ⟨2, ![512, 8]⟩
abbrev S512x1 : Shape := ⟨2, ![512, 1]⟩
abbrev S512 : Shape := ⟨1, ![512]⟩
abbrev S1 : Shape := ⟨1, ![1]⟩
abbrev S1x1x1 : Shape := ⟨3, ![1, 1, 1]⟩
abbrev S1x256x1024 : Shape := ⟨3, ![1, 256, 1024]⟩
abbrev S1x256x1 : Shape := ⟨3, ![1, 256, 1]⟩

abbrev nBuf : Space → Nat
  | .hbm => 21
  | .vmem => 31
  | .smem => 0
  | _ => 0

abbrev bufTy : (tb : Table) → Fin (tcTables nBuf tb) → BufTy
  | .hbm, ⟨0, _⟩ => ⟨S8x3x4096, .f32⟩
  | .hbm, ⟨1, _⟩ => ⟨S8x3x1024, .f32⟩
  | .hbm, ⟨2, _⟩ => ⟨S8x256x4096, .f32⟩
  | .hbm, ⟨3, _⟩ => ⟨S8x512x1024, .f32⟩
  | .hbm, ⟨4, _⟩ => ⟨S256x768, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256x512, .f32⟩
  | .hbm, ⟨11, _⟩ => ⟨S256x256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S8x256x4096, .bf16⟩
  | .hbm, ⟨17, _⟩ => ⟨S256x2, .f32⟩
  | .hbm, ⟨18, _⟩ => ⟨S8x256x4096, .bf16⟩
  | .hbm, ⟨19, _⟩ => ⟨S256x2, .f32⟩
  | .hbm, ⟨20, _⟩ => ⟨S8x256x4096, .f32⟩
  | .local _ .vmem, ⟨0, _⟩ => ⟨S1x3x512, .f32⟩
  | .local _ .vmem, ⟨1, _⟩ => ⟨S1x3x512, .f32⟩
  | .local _ .vmem, ⟨2, _⟩ => ⟨S1x3x1024, .f32⟩
  | .local _ .vmem, ⟨3, _⟩ => ⟨S1x3x1024, .f32⟩
  | .local _ .vmem, ⟨4, _⟩ => ⟨S1x256x512, .f32⟩
  | .local _ .vmem, ⟨5, _⟩ => ⟨S1x256x512, .f32⟩
  | .local _ .vmem, ⟨6, _⟩ => ⟨S1x512x1024, .f32⟩
  | .local _ .vmem, ⟨7, _⟩ => ⟨S1x512x1024, .f32⟩
  | .local _ .vmem, ⟨8, _⟩ => ⟨S256x512, .f32⟩
  | .local _ .vmem, ⟨9, _⟩ => ⟨S256x256, .f32⟩
  | .local _ .vmem, ⟨10, _⟩ => ⟨S1x256x512, .bf16⟩
  | .local _ .vmem, ⟨11, _⟩ => ⟨S1x256x512, .bf16⟩
  | .local _ .vmem, ⟨12, _⟩ => ⟨S256x2, .f32⟩
  | .local _ .vmem, ⟨13, _⟩ => ⟨S256x1024, .bf16⟩
  | .local _ .vmem, ⟨14, _⟩ => ⟨S512x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S256x2, .f32⟩
  | .local _ .vmem, ⟨18, _⟩ => ⟨S256x1, .f32⟩
  | .local _ .vmem, ⟨19, _⟩ => ⟨S256x1, .f32⟩
  | .local _ .vmem, ⟨20, _⟩ => ⟨S256x256, .f32⟩
  | .local _ .vmem, ⟨21, _⟩ => ⟨S1x256x1024, .bf16⟩
  | .local _ .vmem, ⟨22, _⟩ => ⟨S1x256x1024, .bf16⟩
  | .local _ .vmem, ⟨23, _⟩ => ⟨S256x2, .f32⟩
  | .local _ .vmem, ⟨24, _⟩ => ⟨S1x256x1024, .bf16⟩
  | .local _ .vmem, ⟨25, _⟩ => ⟨S1x256x1024, .bf16⟩
  | .local _ .vmem, ⟨26, _⟩ => ⟨S256x2, .f32⟩
  | .local _ .vmem, ⟨27, _⟩ => ⟨S256x1, .f32⟩
  | .local _ .vmem, ⟨28, _⟩ => ⟨S256x1, .f32⟩
  | .local _ .vmem, ⟨29, _⟩ => ⟨S1x256x1024, .f32⟩
  | .local _ .vmem, ⟨30, _⟩ => ⟨S1x256x1024, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S256x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== KernelIdeal.lean ====
variable {F : FTy → Type} [FloatOps F] [Named F]
def κ : String → Option EReal := fun
  | "big" => some ⊤
  | _ => none
-- ==== ReferenceIdeal.lean ====
abbrev S8x3x4096 : Shape := ⟨3, ![8, 3, 4096]⟩
abbrev S8x3x1024 : Shape := ⟨3, ![8, 3, 1024]⟩
abbrev S8x256x4096 : Shape := ⟨3, ![8, 256, 4096]⟩
abbrev S8x512x1024 : Shape := ⟨3, ![8, 512, 1024]⟩
abbrev S256x768 : Shape := ⟨2, ![256, 768]⟩
abbrev S256 : Shape := ⟨1, ![256]⟩
abbrev S256x256 : Shape := ⟨2, ![256, 256]⟩
abbrev S_ : Shape := ⟨0, ![]⟩
abbrev S8x4096 : Shape := ⟨2, ![8, 4096]⟩
abbrev S8x1024 : Shape := ⟨2, ![8, 1024]⟩
abbrev S8x4096x1024 : Shape := ⟨3, ![8, 4096, 1024]⟩
abbrev S8x4096x1 : Shape := ⟨3, ![8, 4096, 1]⟩
abbrev S8x1x1024 : Shape := ⟨3, ![8, 1, 1024]⟩
abbrev S8x4096x3 : Shape := ⟨3, ![8, 4096, 3]⟩
abbrev S8x512x1x1024 : Shape := ⟨4, ![8, 512, 1, 1024]⟩
abbrev S8x1x4096x3 : Shape := ⟨4, ![8, 1, 4096, 3]⟩
abbrev S8x4096x3x1 : Shape := ⟨4, ![8, 4096, 3, 1]⟩
abbrev S1 : Shape := ⟨1, ![1]⟩
abbrev S1x1x1x1 : Shape := ⟨4, ![1, 1, 1, 1]⟩
abbrev S8x512x4096x3 : Shape := ⟨4, ![8, 512, 4096, 3]⟩
abbrev S8x512x4096 : Shape := ⟨3, ![8, 512, 4096]⟩
abbrev S8x768x4096 : Shape := ⟨3, ![8, 768, 4096]⟩
abbrev S8x4096x256 : Shape := ⟨3, ![8, 4096, 256]⟩
abbrev S1x256x1 : Shape := ⟨3, ![1, 256, 1]⟩

abbrev nBuf : Space → Nat
  | .hbm => 174
  | .vmem => 0
  | .smem => 0
  | _ => 0

abbrev hbmTy0_0 (i : Nat) : BufTy := match i % 128 with
  | 0 => ⟨S8x3x4096, .f32⟩
  | 1 => ⟨S8x3x1024, .f32⟩
  | 2 => ⟨S8x256x4096, .f32⟩
  | 3 => ⟨S8x512x1024, .f32⟩
  | 4 => ⟨S256x768, .f32⟩
  | 5 => ⟨S256, .f32⟩
  | 6 => ⟨S256, .f32⟩
  | 7 => ⟨S256x256, .f32⟩
  | 8 => ⟨S256, .f32⟩
  | 9 => ⟨S256, .f32⟩
  | 10 => ⟨S8x3x4096, .f32⟩
  | 11 => ⟨S_, .f32⟩
  | 12 => ⟨S8x4096, .f32⟩
  | 13 => ⟨S8x3x1024, .f32⟩
  | 14 => ⟨S_, .f32⟩
  | 15 => ⟨S8x1024, .f32⟩
  | 16 => ⟨S8x4096x1024, .f32⟩
  | 17 => ⟨S8x4096x1, .f32⟩
  | 18 => ⟨S8x1x1024, .f32⟩
  | 19 => ⟨S8x4096x1024, .f32⟩
  | 20 => ⟨S8x4096x1024, .f32⟩
  | 21 => ⟨S8x4096x1024, .f32⟩
  | 22 => ⟨S_, .f32⟩
  | 23 => ⟨S8x4096x1024, .f32⟩
  | 24 => ⟨S8x4096x1024, .f32⟩
  | 25 => ⟨S8x4096x1024, .f32⟩
  | 26 => ⟨S8x4096x1024, .f32⟩
  | 27 => ⟨S8x4096x3, .f32⟩
  | 28 => ⟨S8x4096x3, .i32⟩
  | 29 => ⟨S8x4096x3, .f32⟩
  | 30 => ⟨S_, .f32⟩
  | 31 => ⟨S8x4096x3, .f32⟩
  | 32 => ⟨S8x4096x3, .f32⟩
  | 33 => ⟨S_, .f32⟩
  | 34 => ⟨S8x4096x3, .f32⟩
  | 35 => ⟨S8x4096x3, .f32⟩
  | 36 => ⟨S_, .f32⟩
  | 37 => ⟨S8x4096x3, .f32⟩
  | 38 => ⟨S8x4096x3, .f32⟩
  | 39 => ⟨S_, .f32⟩
  | 40 => ⟨S8x4096, .f32⟩
  | 41 => ⟨S8x4096x1, .f32⟩
  | 42 => ⟨S8x4096x3, .f32⟩
  | 43 => ⟨S8x4096x3, .f32⟩
  | 44 => ⟨S8x512x1x1024, .f32⟩
  | 45 => ⟨S8x1x4096x3, .i32⟩
  | 46 => ⟨S_, .i32⟩
  | 47 => ⟨S8x1x4096x3, .i32⟩
  | 48 => ⟨S8x1x4096x3, .i1⟩
  | 49 => ⟨S_, .i32⟩
  | 50 => ⟨S8x1x4096x3, .i32⟩
  | 51 => ⟨S8x1x4096x3, .i32⟩
  | 52 => ⟨S8x1x4096x3, .i32⟩
  | 53 => ⟨S8x4096x3x1, .i32⟩
  | 54 => ⟨S8x512x1024, .f32⟩
  | 55 => ⟨S1, .i32⟩
  | 56 => ⟨S_, .i32⟩
  | 57 => ⟨S8x4096x3x1, .i32⟩
  | 58 => ⟨S8x4096x3x1, .i1⟩
  | 59 => ⟨S1x1x1x1, .i32⟩
  | 60 => ⟨S8x4096x3x1, .i32⟩
  | 61 => ⟨S8x4096x3x1, .i1⟩
  | 62 => ⟨S8x4096x3x1, .i1⟩
  | 63 => ⟨S_, .i1⟩
  | 64 => ⟨S8x4096x3, .i1⟩
  | 65 => ⟨S8x512x4096x3, .f32⟩
  | 66 => ⟨S8x512x4096x3, .i1⟩
  | 67 => ⟨S_, .f32⟩
  | 68 => ⟨S8x512x4096x3, .f32⟩
  | 69 => ⟨S8x512x4096x3, .f32⟩
  | 70 => ⟨S8x1x4096x3, .f32⟩
  | 71 => ⟨S8x512x4096x3, .f32⟩
  | 72 => ⟨S8x512x4096x3, .f32⟩
  | 73 => ⟨S_, .f32⟩
  | 74 => ⟨S8x512x4096, .f32⟩
  | 75 => ⟨S8x768x4096, .f32⟩
  | 76 => ⟨S8x4096x256, .f32⟩
  | 77 => ⟨S8x256x4096, .f32⟩
  | 78 => ⟨S_, .f32⟩
  | 79 => ⟨S256, .f32⟩
  | 80 => ⟨S1x256x1, .f32⟩
  | 81 => ⟨S_, .f32⟩
  | 82 => ⟨S1x256x1, .f32⟩
  | 83 => ⟨S1x256x1, .f32⟩
  | 84 => ⟨S_, .i32⟩
  | 85 => ⟨S_, .f32⟩
  | 86 => ⟨S256, .f32⟩
  | 87 => ⟨S1x256x1, .f32⟩
  | 88 => ⟨S_, .f32⟩
  | 89 => ⟨S1x256x1, .f32⟩
  | 90 => ⟨S1x256x1, .f32⟩
  | 91 => ⟨S8x256x4096, .f32⟩
  | 92 => ⟨S8x256x4096, .f32⟩
  | 93 => ⟨S8x256x4096, .f32⟩
  | 94 => ⟨S_, .f32⟩
  | 95 => ⟨S_, .f32⟩
  | 96 => ⟨S_, .f32⟩
  | 97 => ⟨S_, .f32⟩
  | 98 => ⟨S256, .f32⟩
  | 99 => ⟨S1x256x1, .f32⟩
  | 100 => ⟨S1x256x1, .f32⟩
  | 101 => ⟨S1x256x1, .f32⟩
  | 102 => ⟨S_, .f32⟩
  | 103 => ⟨S_, .i1⟩
  | 104 => ⟨S_, .f32⟩
  | 105 => ⟨S_, .f32⟩
  | 106 => ⟨S1x256x1, .f32⟩
  | 107 => ⟨S1x256x1, .f32⟩
  | 108 => ⟨S8x256x4096, .f32⟩
  | 109 => ⟨S8x256x4096, .f32⟩
  | 110 => ⟨S_, .f32⟩
  | 111 => ⟨S1x256x1, .f32⟩
  | 112 => ⟨S1x256x1, .f32⟩
  | 113 => ⟨S1x256x1, .f32⟩
  | 114 => ⟨S8x256x4096, .f32⟩
  | 115 => ⟨S8x256x4096, .f32⟩
  | 116 => ⟨S1x256x1, .f32⟩
  | 117 => ⟨S8x256x4096, .f32⟩
  | 118 => ⟨S8x256x4096, .f32⟩
  | 119 => ⟨S1x256x1, .f32⟩
  | 120 => ⟨S8x256x4096, .f32⟩
  | 121 => ⟨S8x256x4096, .f32⟩
  | 122 => ⟨S_, .f32⟩
  | 123 => ⟨S8x256x4096, .f32⟩
  | 124 => ⟨S8x256x4096, .f32⟩
  | 125 => ⟨S8x4096x256, .f32⟩
  | 126 => ⟨S8x256x4096, .f32⟩
  | 127 => ⟨S_, .f32⟩
  | _ => ⟨S8x3x4096, .f32⟩

abbrev hbmTy0_1 (i : Nat) : BufTy := match i % 128 with
  | 0 => ⟨S256, .f32⟩
  | 1 => ⟨S1x256x1, .f32⟩
  | 2 => ⟨S_, .f32⟩
  | 3 => ⟨S1x256x1, .f32⟩
  | 4 => ⟨S1x256x1, .f32⟩
  | 5 => ⟨S_, .i32⟩
  | 6 => ⟨S_, .f32⟩
  | 7 => ⟨S256, .f32⟩
  | 8 => ⟨S1x256x1, .f32⟩
  | 9 => ⟨S_, .f32⟩
  | 10 => ⟨S1x256x1, .f32⟩
  | 11 => ⟨S1x256x1, .f32⟩
  | 12 => ⟨S8x256x4096, .f32⟩
  | 13 => ⟨S8x256x4096, .f32⟩
  | 14 => ⟨S8x256x4096, .f32⟩
  | 15 => ⟨S_, .f32⟩
  | 16 => ⟨S_, .f32⟩
  | 17 => ⟨S_, .f32⟩
  | 18 => ⟨S_, .f32⟩
  | 19 => ⟨S256, .f32⟩
  | 20 => ⟨S1x256x1, .f32⟩
  | 21 => ⟨S1x256x1, .f32⟩
  | 22 => ⟨S1x256x1, .f32⟩
  | 23 => ⟨S_, .f32⟩
  | 24 => ⟨S_, .i1⟩
  | 25 => ⟨S_, .f32⟩
  | 26 => ⟨S_, .f32⟩
  | 27 => ⟨S1x256x1, .f32⟩
  | 28 => ⟨S1x256x1, .f32⟩
  | 29 => ⟨S8x256x4096, .f32⟩
  | 30 => ⟨S8x256x4096, .f32⟩
  | 31 => ⟨S_, .f32⟩
  | 32 => ⟨S1x256x1, .f32⟩
  | 33 => ⟨S1x256x1, .f32⟩
  | 34 => ⟨S1x256x1, .f32⟩
  | 35 => ⟨S8x256x4096, .f32⟩
  | 36 => ⟨S8x256x4096, .f32⟩
  | 37 => ⟨S1x256x1, .f32⟩
  | 38 => ⟨S8x256x4096, .f32⟩
  | 39 => ⟨S8x256x4096, .f32⟩
  | 40 => ⟨S1x256x1, .f32⟩
  | 41 => ⟨S8x256x4096, .f32⟩
  | 42 => ⟨S8x256x4096, .f32⟩
  | 43 => ⟨S_, .f32⟩
  | 44 => ⟨S8x256x4096, .f32⟩
  | 45 => ⟨S8x256x4096, .f32⟩
  | _ => ⟨S8x3x4096, .f32⟩

abbrev hbmTy (i : Nat) : BufTy := match i / 128 with
  | 0 => hbmTy0_0 i
  | 1 => hbmTy0_1 i
  | _ => ⟨S8x3x4096, .f32⟩

abbrev bufTy : (tb : Table) → Fin (tcTables nBuf tb) → BufTy
  | .hbm, ⟨i, _⟩ => hbmTy i
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_values : Ref sig .tc := ⟨.hbm, 27, rfl⟩
abbrev main_indices : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_c_1 : Ref sig .tc := ⟨.hbm, 55, rfl⟩
abbrev main_call0_c_2 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_c_3 : Ref sig .tc := ⟨.hbm, 63, rfl⟩
abbrev main_call0_v13 : Ref sig .tc := ⟨.hbm, 64, rfl⟩
abbrev main_call0_v14 : Ref sig .tc := ⟨.hbm, 65, rfl⟩
abbrev main_call0_v15 : Ref sig .tc := ⟨.hbm, 66, rfl⟩
abbrev main_call0_cst : Ref sig .tc := ⟨.hbm, 67, rfl⟩
abbrev main_call0_v16 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_6 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_7 : Ref sig .tc := ⟨.hbm, 78, rfl⟩
abbrev main_v35 : Ref sig .tc := ⟨.hbm, 79, rfl⟩
abbrev main_v36 : Ref sig .tc := ⟨.hbm, 80, rfl⟩
abbrev main_cst_8 : Ref sig .tc := ⟨.hbm, 81, rfl⟩
abbrev main_v37 : Ref sig .tc := ⟨.hbm, 82, rfl⟩
abbrev main_v38 : Ref sig .tc := ⟨.hbm, 83, rfl⟩
abbrev main_c : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_cst_3 : Ref sig .tc := ⟨.hbm, 102, rfl⟩
abbrev main_call1_v13 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_cst_9 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_call2_cst : Ref sig .tc := ⟨.hbm, 122, rfl⟩
abbrev main_call2_v0 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_10 : Ref sig .tc := ⟨.hbm, 127, rfl⟩
abbrev main_v56 : Ref sig .tc := ⟨.hbm, 128, rfl⟩
abbrev main_v57 : Ref sig .tc := ⟨.hbm, 129, rfl⟩
abbrev main_cst_11 : Ref sig .tc := ⟨.hbm, 130, rfl⟩
abbrev main_v58 : Ref sig .tc := ⟨.hbm, 131, rfl⟩
abbrev main_v59 : Ref sig .tc := ⟨.hbm, 132, rfl⟩
abbrev main_c_12 : Ref sig .tc := ⟨.hbm, 133, rfl⟩
abbrev main_call3_cst : Ref sig .tc := ⟨.hbm, 134, rfl⟩
abbrev main_call3_v0 : Ref sig .tc := ⟨.hbm, 135, rfl⟩
abbrev main_call3_v1 : Ref sig .tc := ⟨.hbm, 136, rfl⟩
abbrev main_call3_cst_0 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_v7 : Ref sig .tc := ⟨.hbm, 143, rfl⟩
abbrev main_call3_cst_1 : Ref sig .tc := ⟨.hbm, 144, rfl⟩
abbrev main_call3_v8 : Ref sig .tc := ⟨.hbm, 145, rfl⟩
abbrev main_call3_cst_2 : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_call3_v12 : Ref sig .tc := ⟨.hbm, 150, rfl⟩
abbrev main_call3_cst_3 : Ref sig .tc := ⟨.hbm, 151, rfl⟩
abbrev main_call3_v13 : Ref sig .tc := ⟨.hbm, 152, rfl⟩
abbrev main_call3_cst_4 : Ref sig .tc := ⟨.hbm, 153, rfl⟩
abbrev main_call3_call0_v0 : Ref sig .tc := ⟨.hbm, 154, rfl⟩
abbrev main_call3_call0_v1 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_cst_13 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_call4_cst : Ref sig .tc := ⟨.hbm, 171, rfl⟩
abbrev main_call4_v0 : Ref sig .tc := ⟨.hbm, 172, rfl⟩
abbrev main_v74 : Ref sig .tc := ⟨.hbm, 173, rfl⟩

abbrev nD : Nat := 1
abbrev τ : Topo := Topo.v7x

variable {F : FTy → Type} [FloatOps F]
-- ==== Proof.IdealPassA.lean ====
/-
  The first call (`pass_a`) of the idealized program. Its body keeps two buffers of its own: one holds the first layer's
  product with the batch's source features (`z`, computed at the batch's first point and kept to its last), the other the
  interpolation weights of the point's block (`s`, the direct one or, where a row's weights do not add up to one, the
  one that breaks ties by position). The body is run on whole buffers in the cases its conditions make, and the proof data
  of the pipeline is stated over any contents `W` the call finds.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Pipeline.ValueKit.Tiles

@[expose] public section

set_option maxRecDepth 16384

noncomputable section

namespace Cert.KernelIdeal.PassA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem off3 : (![0, 0, 0] : Fin 3 → ℕ) = fun _ => 0 := by funext a; fin_cases a <;> rfl
theorem off2 : (![0, 0] : Fin 2 → ℕ) = fun _ => 0 := by funext a; fin_cases a <;> rfl

abbrev r1x3x512 : Rect S1x3x512 := Rect.unit (s := S1x3x512) ![0, 0, 0] S1x3x512.size inb_S1x3x512_S1x3x512_0_0_0
abbrev r1x3x1024 : Rect S1x3x1024 := Rect.unit (s := S1x3x1024) ![0, 0, 0] S1x3x1024.size inb_S1x3x1024_S1x3x1024_0_0_0
abbrev r1x256x512 : Rect S1x256x512 := Rect.unit (s := S1x256x512) ![0, 0, 0] S1x256x512.size inb_S1x256x512_S1x256x512_0_0_0
abbrev r1x512x1024 : Rect S1x512x1024 := Rect.unit (s := S1x512x1024) ![0, 0, 0] S1x512x1024.size inb_S1x512x1024_S1x512x1024_0_0_0
abbrev r256x512 : Rect S256x512 := Rect.unit (s := S256x512) ![0, 0] S256x512.size inb_S256x512_S256x512_0_0
abbrev r256x256 : Rect S256x256 := Rect.unit (s := S256x256) ![0, 0] S256x256.size inb_S256x256_S256x256_0_0
abbrev r256x2 : Rect S256x2 := Rect.unit (s := S256x2) ![0, 0] S256x2.size inb_S256x2_S256x2_0_0
abbrev r256x1024 : Rect S256x1024 := Rect.unit (s := S256x1024) ![0, 0] S256x1024.size inb_S256x1024_S256x1024_0_0
abbrev r512x1024 : Rect S512x1024 := Rect.unit (s := S512x1024) ![0, 0] S512x1024.size inb_S512x1024_S512x1024_0_0

/-- The block's interpolation weights as the direct path has them, from the targets `x0` and the sources `x1`, -/
abbrev sFast (x0 : Vec F S1x3x512 .f32) (x1 : Vec F S1x3x1024 .f32) : FVec F S512x1024 .bf16 :=
  k0_pay28 (F := F) (k0_pay27 (F := F) (k0_pay16 x0) (k0_pay17 x0 x1) (k0_pay18 x0 x1) (k0_pay20 x0 x1) (k0_pay21 x0 x1) (k0_pay23 x0 x1) (k0_pay24 x0 x1) (k0_pay25 (F := F)))
/-- and as the path that breaks ties by position has them; -/
abbrev sSlow (x0 : Vec F S1x3x512 .f32) (x1 : Vec F S1x3x1024 .f32) : FVec F S512x1024 .bf16 :=
  k0_pay30 (F := F) (k0_pay16 x0) (k0_pay2 (F := F)) (k0_pay4 (k0_pay15 x0 x1)) (k0_pay7 (k0_pay15 x0 x1) (Named.named κ "big" 0x7149F2CA#32)) (k0_pay9 (k0_pay15 x0 x1) (Named.named κ "big" 0x7149F2CA#32)) (k0_pay10 (k0_pay15 x0 x1) (Named.named κ "big" 0x7149F2CA#32)) (k0_pay11 (k0_pay15 x0 x1) (k0_pay16 x0)) (k0_pay12 (k0_pay15 x0 x1) (k0_pay16 x0) (Named.named κ "big" 0x7149F2CA#32))
/-- the condition on which the second is taken; -/
abbrev slow (x0 : Vec F S1x3x512 .f32) (x1 : Vec F S1x3x1024 .f32) : Prop :=
  Scalar.cmpi .ne (Scalar.extui (Scalar.cmpf .ogt (k0_pay29 (F := F) (k0_pay26 (F := F) (k0_pay16 x0) (k0_pay17 x0 x1) (k0_pay18 x0 x1) (k0_pay20 x0 x1) (k0_pay21 x0 x1) (k0_pay23 x0 x1) (k0_pay24 x0 x1) (k0_pay25 (F := F)))) (Scalar.ofBits .f32 0x3A83126F#32 : F .f32))) 0#32 = 1#1
/-- the weights the block is given. -/
abbrev sMat (x0 : Vec F S1x3x512 .f32) (x1 : Vec F S1x3x1024 .f32) : FVec F S512x1024 .bf16 :=
  if slow x0 x1 then sSlow x0 x1 else sFast x0 x1

/-- The condition on which the body computes the batch's product, from the grid coordinates, -/
abbrev condZ (i : grid0.Coords) : Prop := (Scalar.cmpi .ne (Scalar.extui (Scalar.cmpi .eq (BitVec.ofNat 32 (i 1).val) 0#32)) 0#32) = 1#1
/-- and the condition on which it clears the statistics. -/
abbrev cond (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The first holds at a batch's first point, -/
theorem condZ_iff : ∀ t : Fin cfg0.N, condZ (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [condZ, e1]
    word_cmp
   : ∀ t : Fin grid0.N, condZ (grid0.coords t) ↔ t.val % 8 = 0)
/-- the second at the first point only. -/
theorem cond_iff : ∀ t : Fin cfg0.N, cond (grid0.coords t) ↔ t.val % 64 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond, e0, e1]
    word_cmp
   : ∀ t : Fin grid0.N, cond (grid0.coords t) ↔ t.val % 64 = 0)

/-- A whole buffer read after two whole stores reads the later one. -/
theorem readCov_two {sp : Space} {S : Shape} {e : EltTy} (v : View sig .tc sp S e) {off : Fin S.rank → ℕ} (h : off = fun _ => 0)
    (inb : ∀ a, off a + S.size a ≤ S.size a) (w w' : S.Idx → Elt F e) :
    v.readCov [(⟨Rect.unit off S.size inb, w⟩ : View.Piece (Elt F) S e), ⟨Rect.unit off S.size inb, w'⟩] (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

set_option maxHeartbeats 2000000 in
/-- The body at the first point, where the direct weights stand. -/
theorem run_first_fast (c : Dev nD) (E : Set ℕ) (i : grid0.Coords) (hcz : condZ i) (hc0 : cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (hs : ¬slow x0 x1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 (k0_pay13 x4 x3) (sFast x0 x1)) ∗ owns (c : Thread nD τ) arg9 fullShare (k0_pay1 (k0_pay31 x5 x2 (k0_pay13 x4 x3) (sFast x0 x1)) (k0_pay33 (F := F))) ∗ owns (c : Thread nD τ) arg10 fullShare (k0_pay13 x4 x3) ∗ owns (c : Thread nD τ) arg11 fullShare (sFast x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  simp only [cc0__pass_a_eq_skeleton]; unfold cc0__pass_a_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  rw [← View.ld_unit_zero off3 inb_S1x3x512_S1x3x512_0_0_0 (arg2.view.read (Elt F) f0), ← View.ld_unit_zero off3 inb_S1x3x1024_S1x3x1024_0_0_0 (arg3.view.read (Elt F) f1)] at hs
  sl_exec (disch := first | sl_exact hc0 | sl_exact hcz | sl_exact hs)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (View.cover_of_tiled_head _ _ _ (by rfl))).trans ((View.canon_cons_unit_zero off3 _ _ _).trans ?_)
    show k0_pay32 (F := F) (View.ld (arg7.view.read (Elt F) f5) r256x256) (View.ld (arg4.view.read (Elt F) f2) r1x256x512) (View.readCov arg10.view [⟨r256x1024, (k0_pay13 (F := F) (View.ld (arg6.view.read (Elt F) f4) r256x512) (View.ld (arg5.view.read (Elt F) f3) r1x512x1024))⟩] r256x1024.toLoadRect) (View.readCov arg11.view [⟨r512x1024, (sFast (F := F) (View.ld (arg2.view.read (Elt F) f0) r1x3x512) (View.ld (arg3.view.read (Elt F) f1) r1x3x1024))⟩] r512x1024.toLoadRect) = _
    simp only [View.readCov_unit_zero arg10.view off2, View.readCov_unit_zero arg11.view off2, View.readCov_unit_zero arg9.view off2, View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H7]
  · iexists _; isplitr
    swap; · iexact H7
    ipureintro
    refine (View.read_writes_eq_canon _ _ _ (View.cover_of_tiled_head _ _ _ (by rfl))).trans ((View.canon_cons_unit_zero off2 _ _ _).trans ?_)
    show k0_pay1 (F := F) (k0_pay31 (F := F) (View.ld (arg7.view.read (Elt F) f5) r256x256) (View.ld (arg4.view.read (Elt F) f2) r1x256x512) (View.readCov arg10.view [⟨r256x1024, (k0_pay13 (F := F) (View.ld (arg6.view.read (Elt F) f4) r256x512) (View.ld (arg5.view.read (Elt F) f3) r1x512x1024))⟩] r256x1024.toLoadRect) (View.readCov arg11.view [⟨r512x1024, (sFast (F := F) (View.ld (arg2.view.read (Elt F) f0) r1x3x512) (View.ld (arg3.view.read (Elt F) f1) r1x3x1024))⟩] r512x1024.toLoadRect)) (View.readCov arg9.view [⟨r256x2, k0_pay33 (F := F)⟩] r256x2.toLoadRect) = _
    simp only [View.readCov_unit_zero arg10.view off2, View.readCov_unit_zero arg11.view off2, View.readCov_unit_zero arg9.view off2, View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H8]
  · iexists _; isplitr
    swap; · iexact H8
    ipureintro
    refine (View.read_writes_eq_canon _ _ _ (View.cover_of_tiled_head _ _ _ (by rfl))).trans ((View.canon_cons_unit_zero off2 _ _ _).trans ?_)
    show k0_pay13 (F := F) (View.ld (arg6.view.read (Elt F) f4) r256x512) (View.ld (arg5.view.read (Elt F) f3) r1x512x1024) = _
    simp only [View.readCov_unit_zero arg10.view off2, View.readCov_unit_zero arg11.view off2, View.readCov_unit_zero arg9.view off2, View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  iexists _; isplitr
  swap; · iexact H9
  ipureintro
  refine (View.read_writes_eq_canon _ _ _ (View.cover_of_tiled_head _ _ _ (by rfl))).trans ((View.canon_cons_unit_zero off2 _ _ _).trans ?_)
  show sFast (F := F) (View.ld (arg2.view.read (Elt F) f0) r1x3x512) (View.ld (arg3.view.read (Elt F) f1) r1x3x1024) = _
  simp only [View.readCov_unit_zero arg10.view off2, View.readCov_unit_zero arg11.view off2, View.readCov_unit_zero arg9.view off2, View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]

set_option maxHeartbeats 2000000 in
/-- The body at the first point, where the weights are recomputed with ties broken by position. -/
theorem run_first_slow (c : Dev nD) (E : Set ℕ) (i : grid0.Coords) (hcz : condZ i) (hc0 : cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (hs : slow x0 x1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 (k0_pay13 x4 x3) (sSlow x0 x1)) ∗ owns (c : Thread nD τ) arg9 fullShare (k0_pay1 (k0_pay31 x5 x2 (k0_pay13 x4 x3) (sSlow x0 x1)) (k0_pay33 (F := F))) ∗ owns (c : Thread nD τ) arg10 fullShare (k0_pay13 x4 x3) ∗ owns (c : Thread nD τ) arg11 fullShare (sSlow x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  simp only [cc0__pass_a_eq_skeleton]; unfold cc0__pass_a_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  rw [← View.ld_unit_zero off3 inb_S1x3x512_S1x3x512_0_0_0 (arg2.view.read (Elt F) f0), ← View.ld_unit_zero off3 inb_S1x3x1024_S1x3x1024_0_0_0 (arg3.view.read (Elt F) f1)] at hs
  sl_exec (disch := first | sl_exact hc0 | sl_exact hcz | sl_exact hs)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (View.cover_of_tiled_head _ _ _ (by rfl))).trans ((View.canon_cons_unit_zero off3 _ _ _).trans ?_)
    show k0_pay32 (F := F) (View.ld (arg7.view.read (Elt F) f5) r256x256) (View.ld (arg4.view.read (Elt F) f2) r1x256x512) (View.readCov arg10.view [⟨r256x1024, (k0_pay13 (F := F) (View.ld (arg6.view.read (Elt F) f4) r256x512) (View.ld (arg5.view.read (Elt F) f3) r1x512x1024))⟩] r256x1024.toLoadRect) (View.readCov arg11.view [⟨r512x1024, (sSlow (F := F) (View.ld (arg2.view.read (Elt F) f0) r1x3x512) (View.ld (arg3.view.read (Elt F) f1) r1x3x1024))⟩, ⟨r512x1024, (sFast (F := F) (View.ld (arg2.view.read (Elt F) f0) r1x3x512) (View.ld (arg3.view.read (Elt F) f1) r1x3x1024))⟩] r512x1024.toLoadRect) = _
    simp only [View.readCov_unit_zero arg10.view off2, readCov_two arg11.view off2, View.readCov_unit_zero arg9.view off2, View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H7]
  · iexists _; isplitr
    swap; · iexact H7
    ipureintro
    refine (View.read_writes_eq_canon _ _ _ (View.cover_of_tiled_head _ _ _ (by rfl))).trans ((View.canon_cons_unit_zero off2 _ _ _).trans ?_)
    show k0_pay1 (F := F) (k0_pay31 (F := F) (View.ld (arg7.view.read (Elt F) f5) r256x256) (View.ld (arg4.view.read (Elt F) f2) r1x256x512) (View.readCov arg10.view [⟨r256x1024, (k0_pay13 (F := F) (View.ld (arg6.view.read (Elt F) f4) r256x512) (View.ld (arg5.view.read (Elt F) f3) r1x512x1024))⟩] r256x1024.toLoadRect) (View.readCov arg11.view [⟨r512x1024, (sSlow (F := F) (View.ld (arg2.view.read (Elt F) f0) r1x3x512) (View.ld (arg3.view.read (Elt F) f1) r1x3x1024))⟩, ⟨r512x1024, (sFast (F := F) (View.ld (arg2.view.read (Elt F) f0) r1x3x512) (View.ld (arg3.view.read (Elt F) f1) r1x3x1024))⟩] r512x1024.toLoadRect)) (View.readCov arg9.view [⟨r256x2, k0_pay33 (F := F)⟩] r256x2.toLoadRect) = _
    simp only [View.readCov_unit_zero arg10.view off2, readCov_two arg11.view off2, View.readCov_unit_zero arg9.view off2, View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H8]
  · iexists _; isplitr
    swap; · iexact H8
    ipureintro
    refine (View.read_writes_eq_canon _ _ _ (View.cover_of_tiled_head _ _ _ (by rfl))).trans ((View.canon_cons_unit_zero off2 _ _ _).trans ?_)
    show k0_pay13 (F := F) (View.ld (arg6.view.read (Elt F) f4) r256x512) (View.ld (arg5.view.read (Elt F) f3) r1x512x1024) = _
    simp only [View.readCov_unit_zero arg10.view off2, readCov_two arg11.view off2, View.readCov_unit_zero arg9.view off2, View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  iexists _; isplitr
  swap; · iexact H9
  ipureintro
  refine (View.read_writes_eq_canon _ _ _ (View.cover_of_tiled_head _ _ _ (by rfl))).trans ((View.canon_cons_unit_zero off2 _ _ _).trans ?_)
  show sSlow (F := F) (View.ld (arg2.view.read (Elt F) f0) r1x3x512) (View.ld (arg3.view.read (Elt F) f1) r1x3x1024) = _
  simp only [View.readCov_unit_zero arg10.view off2, readCov_two arg11.view off2, View.readCov_unit_zero arg9.view off2, View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]

set_option maxHeartbeats 2000000 in
/-- The body at a later batch's first point, where the direct weights stand. -/
theorem run_row_fast (c : Dev nD) (E : Set ℕ) (i : grid0.Coords) (hcz : condZ i) (hc0 : ¬cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (x7 : Vec F S256x2 .f32) (hs : ¬slow x0 x1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 (k0_pay13 x4 x3) (sFast x0 x1)) ∗ owns (c : Thread nD τ) arg9 fullShare (k0_pay1 (k0_pay31 x5 x2 (k0_pay13 x4 x3) (sFast x0 x1)) x7) ∗ owns (c : Thread nD τ) arg10 fullShare (k0_pay13 x4 x3) ∗ owns (c : Thread nD τ) arg11 fullShare (sFast x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  simp only [cc0__pass_a_eq_skeleton]; unfold cc0__pass_a_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  rw [← View.ld_unit_zero off3 inb_S1x3x512_S1x3x512_0_0_0 (arg2.view.read (Elt F) f0), ← View.ld_unit_zero off3 inb_S1x3x1024_S1x3x1024_0_0_0 (arg3.view.read (Elt F) f1)] at hs
  sl_exec (disch := first | sl_exact hc0 | sl_exact hcz | sl_exact hs)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (View.cover_of_tiled_head _ _ _ (by rfl))).trans ((View.canon_cons_unit_zero off3 _ _ _).trans ?_)
    show k0_pay32 (F := F) (View.ld (arg7.view.read (Elt F) f5) r256x256) (View.ld (arg4.view.read (Elt F) f2) r1x256x512) (View.readCov arg10.view [⟨r256x1024, (k0_pay13 (F := F) (View.ld (arg6.view.read (Elt F) f4) r256x512) (View.ld (arg5.view.read (Elt F) f3) r1x512x1024))⟩] r256x1024.toLoadRect) (View.readCov arg11.view [⟨r512x1024, (sFast (F := F) (View.ld (arg2.view.read (Elt F) f0) r1x3x512) (View.ld (arg3.view.read (Elt F) f1) r1x3x1024))⟩] r512x1024.toLoadRect) = _
    simp only [View.readCov_unit_zero arg10.view off2, View.readCov_unit_zero arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H7]
  · iexists _; isplitr
    swap; · iexact H7
    ipureintro
    refine (View.read_writes_eq_canon _ _ _ (View.cover_of_tiled_head _ _ _ (by rfl))).trans ((View.canon_cons_unit_zero off2 _ _ _).trans ?_)
    show k0_pay1 (F := F) (k0_pay31 (F := F) (View.ld (arg7.view.read (Elt F) f5) r256x256) (View.ld (arg4.view.read (Elt F) f2) r1x256x512) (View.readCov arg10.view [⟨r256x1024, (k0_pay13 (F := F) (View.ld (arg6.view.read (Elt F) f4) r256x512) (View.ld (arg5.view.read (Elt F) f3) r1x512x1024))⟩] r256x1024.toLoadRect) (View.readCov arg11.view [⟨r512x1024, (sFast (F := F) (View.ld (arg2.view.read (Elt F) f0) r1x3x512) (View.ld (arg3.view.read (Elt F) f1) r1x3x1024))⟩] r512x1024.toLoadRect)) (View.ld (arg9.view.read (Elt F) f7) r256x2) = _
    simp only [View.readCov_unit_zero arg10.view off2, View.readCov_unit_zero arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H8]
  · iexists _; isplitr
    swap; · iexact H8
    ipureintro
    refine (View.read_writes_eq_canon _ _ _ (View.cover_of_tiled_head _ _ _ (by rfl))).trans ((View.canon_cons_unit_zero off2 _ _ _).trans ?_)
    show k0_pay13 (F := F) (View.ld (arg6.view.read (Elt F) f4) r256x512) (View.ld (arg5.view.read (Elt F) f3) r1x512x1024) = _
    simp only [View.readCov_unit_zero arg10.view off2, View.readCov_unit_zero arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  iexists _; isplitr
  swap; · iexact H9
  ipureintro
  refine (View.read_writes_eq_canon _ _ _ (View.cover_of_tiled_head _ _ _ (by rfl))).trans ((View.canon_cons_unit_zero off2 _ _ _).trans ?_)
  show sFast (F := F) (View.ld (arg2.view.read (Elt F) f0) r1x3x512) (View.ld (arg3.view.read (Elt F) f1) r1x3x1024) = _
  simp only [View.readCov_unit_zero arg10.view off2, View.readCov_unit_zero arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]

set_option maxHeartbeats 2000000 in
/-- The body at a later batch's first point, where the weights are recomputed with ties broken by position. -/
theorem run_row_slow (c : Dev nD) (E : Set ℕ) (i : grid0.Coords) (hcz : condZ i) (hc0 : ¬cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (x7 : Vec F S256x2 .f32) (hs : slow x0 x1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 (k0_pay13 x4 x3) (sSlow x0 x1)) ∗ owns (c : Thread nD τ) arg9 fullShare (k0_pay1 (k0_pay31 x5 x2 (k0_pay13 x4 x3) (sSlow x0 x1)) x7) ∗ owns (c : Thread nD τ) arg10 fullShare (k0_pay13 x4 x3) ∗ owns (c : Thread nD τ) arg11 fullShare (sSlow x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  simp only [cc0__pass_a_eq_skeleton]; unfold cc0__pass_a_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  rw [← View.ld_unit_zero off3 inb_S1x3x512_S1x3x512_0_0_0 (arg2.view.read (Elt F) f0), ← View.ld_unit_zero off3 inb_S1x3x1024_S1x3x1024_0_0_0 (arg3.view.read (Elt F) f1)] at hs
  sl_exec (disch := first | sl_exact hc0 | sl_exact hcz | sl_exact hs)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (View.cover_of_tiled_head _ _ _ (by rfl))).trans ((View.canon_cons_unit_zero off3 _ _ _).trans ?_)
    show k0_pay32 (F := F) (View.ld (arg7.view.read (Elt F) f5) r256x256) (View.ld (arg4.view.read (Elt F) f2) r1x256x512) (View.readCov arg10.view [⟨r256x1024, (k0_pay13 (F := F) (View.ld (arg6.view.read (Elt F) f4) r256x512) (View.ld (arg5.view.read (Elt F) f3) r1x512x1024))⟩] r256x1024.toLoadRect) (View.readCov arg11.view [⟨r512x1024, (sSlow (F := F) (View.ld (arg2.view.read (Elt F) f0) r1x3x512) (View.ld (arg3.view.read (Elt F) f1) r1x3x1024))⟩, ⟨r512x1024, (sFast (F := F) (View.ld (arg2.view.read (Elt F) f0) r1x3x512) (View.ld (arg3.view.read (Elt F) f1) r1x3x1024))⟩] r512x1024.toLoadRect) = _
    simp only [View.readCov_unit_zero arg10.view off2, readCov_two arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H7]
  · iexists _; isplitr
    swap; · iexact H7
    ipureintro
    refine (View.read_writes_eq_canon _ _ _ (View.cover_of_tiled_head _ _ _ (by rfl))).trans ((View.canon_cons_unit_zero off2 _ _ _).trans ?_)
    show k0_pay1 (F := F) (k0_pay31 (F := F) (View.ld (arg7.view.read (Elt F) f5) r256x256) (View.ld (arg4.view.read (Elt F) f2) r1x256x512) (View.readCov arg10.view [⟨r256x1024, (k0_pay13 (F := F) (View.ld (arg6.view.read (Elt F) f4) r256x512) (View.ld (arg5.view.read (Elt F) f3) r1x512x1024))⟩] r256x1024.toLoadRect) (View.readCov arg11.view [⟨r512x1024, (sSlow (F := F) (View.ld (arg2.view.read (Elt F) f0) r1x3x512) (View.ld (arg3.view.read (Elt F) f1) r1x3x1024))⟩, ⟨r512x1024, (sFast (F := F) (View.ld (arg2.view.read (Elt F) f0) r1x3x512) (View.ld (arg3.view.read (Elt F) f1) r1x3x1024))⟩] r512x1024.toLoadRect)) (View.ld (arg9.view.read (Elt F) f7) r256x2) = _
    simp only [View.readCov_unit_zero arg10.view off2, readCov_two arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H8]
  · iexists _; isplitr
    swap; · iexact H8
    ipureintro
    refine (View.read_writes_eq_canon _ _ _ (View.cover_of_tiled_head _ _ _ (by rfl))).trans ((View.canon_cons_unit_zero off2 _ _ _).trans ?_)
    show k0_pay13 (F := F) (View.ld (arg6.view.read (Elt F) f4) r256x512) (View.ld (arg5.view.read (Elt F) f3) r1x512x1024) = _
    simp only [View.readCov_unit_zero arg10.view off2, readCov_two arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  iexists _; isplitr
  swap; · iexact H9
  ipureintro
  refine (View.read_writes_eq_canon _ _ _ (View.cover_of_tiled_head _ _ _ (by rfl))).trans ((View.canon_cons_unit_zero off2 _ _ _).trans ?_)
  show sSlow (F := F) (View.ld (arg2.view.read (Elt F) f0) r1x3x512) (View.ld (arg3.view.read (Elt F) f1) r1x3x1024) = _
  simp only [View.readCov_unit_zero arg10.view off2, readCov_two arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]

set_option maxHeartbeats 2000000 in
/-- The body at a later point of a batch, where the direct weights stand. -/
theorem run_next_fast (c : Dev nD) (E : Set ℕ) (i : grid0.Coords) (hcz : ¬condZ i) (hc0 : ¬cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (x7 : Vec F S256x2 .f32) (x8 : Vec F S256x1024 .bf16) (hs : ¬slow x0 x1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 x8 (sFast x0 x1)) ∗ owns (c : Thread nD τ) arg9 fullShare (k0_pay1 (k0_pay31 x5 x2 x8 (sFast x0 x1)) x7) ∗ owns (c : Thread nD τ) arg10 fullShare x8 ∗ owns (c : Thread nD τ) arg11 fullShare (sFast x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  simp only [cc0__pass_a_eq_skeleton]; unfold cc0__pass_a_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, Hk⟩
  subst hf0 hf1 hf2 hf3 hf4 hf5 hf7 hf8
  rw [← View.ld_unit_zero off3 inb_S1x3x512_S1x3x512_0_0_0 (arg2.view.read (Elt F) f0), ← View.ld_unit_zero off3 inb_S1x3x1024_S1x3x1024_0_0_0 (arg3.view.read (Elt F) f1)] at hs
  sl_exec (disch := first | sl_exact hc0 | sl_exact hcz | sl_exact hs)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (View.cover_of_tiled_head _ _ _ (by rfl))).trans ((View.canon_cons_unit_zero off3 _ _ _).trans ?_)
    show k0_pay32 (F := F) (View.ld (arg7.view.read (Elt F) f5) r256x256) (View.ld (arg4.view.read (Elt F) f2) r1x256x512) (View.ld (arg10.view.read (Elt F) f8) r256x1024) (View.readCov arg11.view [⟨r512x1024, (sFast (F := F) (View.ld (arg2.view.read (Elt F) f0) r1x3x512) (View.ld (arg3.view.read (Elt F) f1) r1x3x1024))⟩] r512x1024.toLoadRect) = _
    simp only [View.ld_unit_zero off2 inb_S256x1024_S256x1024_0_0 (arg10.view.read (Elt F) f8), View.readCov_unit_zero arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H7]
  · iexists _; isplitr
    swap; · iexact H7
    ipureintro
    refine (View.read_writes_eq_canon _ _ _ (View.cover_of_tiled_head _ _ _ (by rfl))).trans ((View.canon_cons_unit_zero off2 _ _ _).trans ?_)
    show k0_pay1 (F := F) (k0_pay31 (F := F) (View.ld (arg7.view.read (Elt F) f5) r256x256) (View.ld (arg4.view.read (Elt F) f2) r1x256x512) (View.ld (arg10.view.read (Elt F) f8) r256x1024) (View.readCov arg11.view [⟨r512x1024, (sFast (F := F) (View.ld (arg2.view.read (Elt F) f0) r1x3x512) (View.ld (arg3.view.read (Elt F) f1) r1x3x1024))⟩] r512x1024.toLoadRect)) (View.ld (arg9.view.read (Elt F) f7) r256x2) = _
    simp only [View.ld_unit_zero off2 inb_S256x1024_S256x1024_0_0 (arg10.view.read (Elt F) f8), View.readCov_unit_zero arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H8]
  · iexists f8; isplitr; · ipureintro; rfl
    iexact H8
  iexists _; isplitr
  swap; · iexact H9
  ipureintro
  refine (View.read_writes_eq_canon _ _ _ (View.cover_of_tiled_head _ _ _ (by rfl))).trans ((View.canon_cons_unit_zero off2 _ _ _).trans ?_)
  show sFast (F := F) (View.ld (arg2.view.read (Elt F) f0) r1x3x512) (View.ld (arg3.view.read (Elt F) f1) r1x3x1024) = _
  simp only [View.ld_unit_zero off2 inb_S256x1024_S256x1024_0_0 (arg10.view.read (Elt F) f8), View.readCov_unit_zero arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]

set_option maxHeartbeats 2000000 in
/-- The body at a later point of a batch, where the weights are recomputed with ties broken by position. -/
theorem run_next_slow (c : Dev nD) (E : Set ℕ) (i : grid0.Coords) (hcz : ¬condZ i) (hc0 : ¬cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (x7 : Vec F S256x2 .f32) (x8 : Vec F S256x1024 .bf16) (hs : slow x0 x1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 x8 (sSlow x0 x1)) ∗ owns (c : Thread nD τ) arg9 fullShare (k0_pay1 (k0_pay31 x5 x2 x8 (sSlow x0 x1)) x7) ∗ owns (c : Thread nD τ) arg10 fullShare x8 ∗ owns (c : Thread nD τ) arg11 fullShare (sSlow x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  simp only [cc0__pass_a_eq_skeleton]; unfold cc0__pass_a_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, Hk⟩
  subst hf0 hf1 hf2 hf3 hf4 hf5 hf7 hf8
  rw [← View.ld_unit_zero off3 inb_S1x3x512_S1x3x512_0_0_0 (arg2.view.read (Elt F) f0), ← View.ld_unit_zero off3 inb_S1x3x1024_S1x3x1024_0_0_0 (arg3.view.read (Elt F) f1)] at hs
  sl_exec (disch := first | sl_exact hc0 | sl_exact hcz | sl_exact hs)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (View.cover_of_tiled_head _ _ _ (by rfl))).trans ((View.canon_cons_unit_zero off3 _ _ _).trans ?_)
    show k0_pay32 (F := F) (View.ld (arg7.view.read (Elt F) f5) r256x256) (View.ld (arg4.view.read (Elt F) f2) r1x256x512) (View.ld (arg10.view.read (Elt F) f8) r256x1024) (View.readCov arg11.view [⟨r512x1024, (sSlow (F := F) (View.ld (arg2.view.read (Elt F) f0) r1x3x512) (View.ld (arg3.view.read (Elt F) f1) r1x3x1024))⟩, ⟨r512x1024, (sFast (F := F) (View.ld (arg2.view.read (Elt F) f0) r1x3x512) (View.ld (arg3.view.read (Elt F) f1) r1x3x1024))⟩] r512x1024.toLoadRect) = _
    simp only [View.ld_unit_zero off2 inb_S256x1024_S256x1024_0_0 (arg10.view.read (Elt F) f8), readCov_two arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H7]
  · iexists _; isplitr
    swap; · iexact H7
    ipureintro
    refine (View.read_writes_eq_canon _ _ _ (View.cover_of_tiled_head _ _ _ (by rfl))).trans ((View.canon_cons_unit_zero off2 _ _ _).trans ?_)
    show k0_pay1 (F := F) (k0_pay31 (F := F) (View.ld (arg7.view.read (Elt F) f5) r256x256) (View.ld (arg4.view.read (Elt F) f2) r1x256x512) (View.ld (arg10.view.read (Elt F) f8) r256x1024) (View.readCov arg11.view [⟨r512x1024, (sSlow (F := F) (View.ld (arg2.view.read (Elt F) f0) r1x3x512) (View.ld (arg3.view.read (Elt F) f1) r1x3x1024))⟩, ⟨r512x1024, (sFast (F := F) (View.ld (arg2.view.read (Elt F) f0) r1x3x512) (View.ld (arg3.view.read (Elt F) f1) r1x3x1024))⟩] r512x1024.toLoadRect)) (View.ld (arg9.view.read (Elt F) f7) r256x2) = _
    simp only [View.ld_unit_zero off2 inb_S256x1024_S256x1024_0_0 (arg10.view.read (Elt F) f8), readCov_two arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]
  isplitl [H8]
  · iexists f8; isplitr; · ipureintro; rfl
    iexact H8
  iexists _; isplitr
  swap; · iexact H9
  ipureintro
  refine (View.read_writes_eq_canon _ _ _ (View.cover_of_tiled_head _ _ _ (by rfl))).trans ((View.canon_cons_unit_zero off2 _ _ _).trans ?_)
  show sSlow (F := F) (View.ld (arg2.view.read (Elt F) f0) r1x3x512) (View.ld (arg3.view.read (Elt F) f1) r1x3x1024) = _
  simp only [View.ld_unit_zero off2 inb_S256x1024_S256x1024_0_0 (arg10.view.read (Elt F) f8), readCov_two arg11.view off2, View.ld_unit_zero off2 inb_S256x2_S256x2_0_0 (arg9.view.read (Elt F) f7), View.ld_unit_zero off3 inb_S1x3x512_S1x3x512_0_0_0 (arg2.view.read (Elt F) f0), View.ld_unit_zero off3 inb_S1x3x1024_S1x3x1024_0_0_0 (arg3.view.read (Elt F) f1), View.ld_unit_zero off3 inb_S1x256x512_S1x256x512_0_0_0 (arg4.view.read (Elt F) f2), View.ld_unit_zero off3 inb_S1x512x1024_S1x512x1024_0_0_0 (arg5.view.read (Elt F) f3), View.ld_unit_zero off2 inb_S256x512_S256x512_0_0 (arg6.view.read (Elt F) f4), View.ld_unit_zero off2 inb_S256x256_S256x256_0_0 (arg7.view.read (Elt F) f5)]

/-- The two together. -/
theorem run_first (c : Dev nD) (E : Set ℕ) (i : grid0.Coords) (hcz : condZ i) (hc0 : cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 (k0_pay13 x4 x3) (sMat x0 x1)) ∗ owns (c : Thread nD τ) arg9 fullShare (k0_pay1 (k0_pay31 x5 x2 (k0_pay13 x4 x3) (sMat x0 x1)) (k0_pay33 (F := F))) ∗ owns (c : Thread nD τ) arg10 fullShare (k0_pay13 x4 x3) ∗ owns (c : Thread nD τ) arg11 fullShare (sMat x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  by_cases hs : slow x0 x1
  · rw [show sMat x0 x1 = sSlow x0 x1 from if_pos hs]
    exact run_first_slow c E i hcz hc0 arg2 harg2 arg3 harg3 arg4 harg4 arg5 harg5 arg6 harg6 arg7 harg7 arg8 harg8 arg9 harg9 arg10 harg10 arg11 harg11 x0 x1 x2 x3 x4 x5 hs K
  · rw [show sMat x0 x1 = sFast x0 x1 from if_neg hs]
    exact run_first_fast c E i hcz hc0 arg2 harg2 arg3 harg3 arg4 harg4 arg5 harg5 arg6 harg6 arg7 harg7 arg8 harg8 arg9 harg9 arg10 harg10 arg11 harg11 x0 x1 x2 x3 x4 x5 hs K

/-- The two together. -/
theorem run_row (c : Dev nD) (E : Set ℕ) (i : grid0.Coords) (hcz : condZ i) (hc0 : ¬cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (x7 : Vec F S256x2 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 (k0_pay13 x4 x3) (sMat x0 x1)) ∗ owns (c : Thread nD τ) arg9 fullShare (k0_pay1 (k0_pay31 x5 x2 (k0_pay13 x4 x3) (sMat x0 x1)) x7) ∗ owns (c : Thread nD τ) arg10 fullShare (k0_pay13 x4 x3) ∗ owns (c : Thread nD τ) arg11 fullShare (sMat x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  by_cases hs : slow x0 x1
  · rw [show sMat x0 x1 = sSlow x0 x1 from if_pos hs]
    exact run_row_slow c E i hcz hc0 arg2 harg2 arg3 harg3 arg4 harg4 arg5 harg5 arg6 harg6 arg7 harg7 arg8 harg8 arg9 harg9 arg10 harg10 arg11 harg11 x0 x1 x2 x3 x4 x5 x7 hs K
  · rw [show sMat x0 x1 = sFast x0 x1 from if_neg hs]
    exact run_row_fast c E i hcz hc0 arg2 harg2 arg3 harg3 arg4 harg4 arg5 harg5 arg6 harg6 arg7 harg7 arg8 harg8 arg9 harg9 arg10 harg10 arg11 harg11 x0 x1 x2 x3 x4 x5 x7 hs K

/-- The two together. -/
theorem run_next (c : Dev nD) (E : Set ℕ) (i : grid0.Coords) (hcz : ¬condZ i) (hc0 : ¬cond i) (arg2 : Memref sig .tc .vmem S1x3x512 .f32) (harg2 : arg2.IsWhole) (arg3 : Memref sig .tc .vmem S1x3x1024 .f32) (harg3 : arg3.IsWhole) (arg4 : Memref sig .tc .vmem S1x256x512 .f32) (harg4 : arg4.IsWhole) (arg5 : Memref sig .tc .vmem S1x512x1024 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256x512 .bf16) (harg8 : arg8.IsWhole) (arg9 : Memref sig .tc .vmem S256x2 .f32) (harg9 : arg9.IsWhole) (arg10 : Memref sig .tc .vmem S256x1024 .bf16) (harg10 : arg10.IsWhole) (arg11 : Memref sig .tc .vmem S512x1024 .bf16) (harg11 : arg11.IsWhole)
    (x0 : Vec F S1x3x512 .f32) (x1 : Vec F S1x3x1024 .f32) (x2 : Vec F S1x256x512 .f32) (x3 : Vec F S1x512x1024 .f32) (x4 : Vec F S256x512 .f32) (x5 : Vec F S256x256 .f32) (x7 : Vec F S256x2 .f32) (x8 : Vec F S256x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay32 x5 x2 x8 (sMat x0 x1)) ∗ owns (c : Thread nD τ) arg9 fullShare (k0_pay1 (k0_pay31 x5 x2 x8 (sMat x0 x1)) x7) ∗ owns (c : Thread nD τ) arg10 fullShare x8 ∗ owns (c : Thread nD τ) arg11 fullShare (sMat x0 x1)) -∗ K ⟨⟩))
      ⊢ wp frame (wpE (defs₀ (F := F)) Variants.none c none) E (cc0__pass_a i arg2 harg2 arg3 harg3 arg4 harg4 arg5 harg5 arg6 harg6 arg7 harg7 arg8 harg8 arg9 harg9 arg10 harg10 arg11 harg11) K := by
  by_cases hs : slow x0 x1
  · rw [show sMat x0 x1 = sSlow x0 x1 from if_pos hs]
    exact run_next_slow c E i hcz hc0 arg2 harg2 arg3 harg3 arg4 harg4 arg5 harg5 arg6 harg6 arg7 harg7 arg8 harg8 arg9 harg9 arg10 harg10 arg11 harg11 x0 x1 x2 x3 x4 x5 x7 x8 hs K
  · rw [show sMat x0 x1 = sFast x0 x1 from if_neg hs]
    exact run_next_fast c E i hcz hc0 arg2 harg2 arg3 harg3 arg4 harg4 arg5 harg5 arg6 harg6 arg7 harg7 arg8 harg8 arg9 harg9 arg10 harg10 arg11 harg11 x0 x1 x2 x3 x4 x5 x7 x8 hs K

variable (W : Dev nD → Valuation τ sig (Elt F))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- The batch's product at point `t`, -/
def zAt (c : Dev nD) (t : Fin cfg0.N) : Vec F S256x1024 .bf16 := k0_pay13 (F := F) (blk W c 4 t) (blk W c 3 t)

/-- the block's weights, -/
def sAt (c : Dev nD) (t : Fin cfg0.N) : Vec F S512x1024 .bf16 := sMat (F := F) (blk W c 0 t) (blk W c 1 t)

/-- and the first layer's block before the statistics are taken. -/
def lay (c : Dev nD) (t : Fin cfg0.N) : FVec F S256x512 .f32 :=
  k0_pay31 (F := F) (blk W c 5 t) (blk W c 2 t) (zAt W c t) (sAt W c t)

/-- The running statistics after point `n`: cleared at the first, each block's added. -/
def acc (c : Dev nD) : (n : ℕ) → n < cfg0.N → FVec F S256x2 .f32
  | 0, h => k0_pay1 (F := F) (lay W c ⟨0, h⟩) (k0_pay33 (F := F))
  | n + 1, h => k0_pay1 (F := F) (lay W c ⟨n + 1, h⟩) (acc c n (Nat.lt_of_succ_lt h))

/-- The scoped buffers the call does not touch. -/
def rest (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The scoped buffers of the call: its own two and the others. -/
theorem scoped_split (c : Dev nD) :
    (Pipeline.scopedRest spec0 c : sProp 𝕄) = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ rest c) :=
  scopedRest0_eq c

/-- What holds between the points: the first own buffer holds the product of the point before. -/
def inv (c : Dev nD) (t : Fin (cfg0.N + 1)) : sProp 𝕄 :=
  iprop((∃ z, ⌜∀ u : Fin cfg0.N, u.val + 1 = t.val → z = zAt W c u⌝ ∗ owns (c : Thread nD τ) (Memref.whole cc0_scratch0) fullShare z)
    ∗ (∃ s, owns (c : Thread nD τ) (Memref.whole cc0_scratch1) fullShare s) ∗ rest c ∗ ∃ r, prngReg c r)

/-- The proof data of the pipeline over the contents `W`. -/
def dat (c : Dev nD) : Dat τ (Elt F) Unit ℕ (UR sig nD τ) ℕ cfg0 c where
  A w := W c (Pipeline.arrRef spec0 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => k0_pay32 (F := F) (blk W c 5 t) (blk W c 2 t) (zAt W c t) (sAt W c t)
    | ⟨7, _⟩ => acc W c t.val t.isLt
  Φ t := inv W c t
  q _ := fullShare
  owed _ := 0

theorem dat_A (c : Dev nD) (w : Fin cfg0.W) : (dat W c).A w = W c (Pipeline.arrRef spec0 w) := by dsimp only [dat]

theorem after_0 (c : Dev nD) (t : Fin cfg0.N) : (dat W c).after 0 t = blk W c 0 t := by dsimp only [dat]
theorem after_1 (c : Dev nD) (t : Fin cfg0.N) : (dat W c).after 1 t = blk W c 1 t := by dsimp only [dat]
theorem after_2 (c : Dev nD) (t : Fin cfg0.N) : (dat W c).after 2 t = blk W c 2 t := by dsimp only [dat]
theorem after_3 (c : Dev nD) (t : Fin cfg0.N) : (dat W c).after 3 t = blk W c 3 t := by dsimp only [dat]
theorem after_4 (c : Dev nD) (t : Fin cfg0.N) : (dat W c).after 4 t = blk W c 4 t := by dsimp only [dat]
theorem after_5 (c : Dev nD) (t : Fin cfg0.N) : (dat W c).after 5 t = blk W c 5 t := by dsimp only [dat]
theorem after_6 (c : Dev nD) (t : Fin cfg0.N) : (dat W c).after 6 t = k0_pay32 (F := F) (blk W c 5 t) (blk W c 2 t) (zAt W c t) (sAt W c t) := by dsimp only [dat]
theorem after_7 (c : Dev nD) (t : Fin cfg0.N) : (dat W c).after 7 t = acc W c t.val t.isLt := by dsimp only [dat]

/-- A fetch leaves the block in an input's staging buffer. -/
theorem fetched_0 (c : Dev nD) (t : Fin cfg0.N) (d) : (dat W c).fetched 0 t d = blk W c 0 t := by
  unfold Dat.fetched Dat.blockOf blk; rw [dat_A]; try rfl
theorem fetched_1 (c : Dev nD) (t : Fin cfg0.N) (d) : (dat W c).fetched 1 t d = blk W c 1 t := by
  unfold Dat.fetched Dat.blockOf blk; rw [dat_A]; try rfl
theorem fetched_2 (c : Dev nD) (t : Fin cfg0.N) (d) : (dat W c).fetched 2 t d = blk W c 2 t := by
  unfold Dat.fetched Dat.blockOf blk; rw [dat_A]; try rfl
theorem fetched_3 (c : Dev nD) (t : Fin cfg0.N) (d) : (dat W c).fetched 3 t d = blk W c 3 t := by
  unfold Dat.fetched Dat.blockOf blk; rw [dat_A]; try rfl
theorem fetched_4 (c : Dev nD) (t : Fin cfg0.N) (d) : (dat W c).fetched 4 t d = blk W c 4 t := by
  unfold Dat.fetched Dat.blockOf blk; rw [dat_A]; try rfl
theorem fetched_5 (c : Dev nD) (t : Fin cfg0.N) (d) : (dat W c).fetched 5 t d = blk W c 5 t := by
  unfold Dat.fetched Dat.blockOf blk; rw [dat_A]; try rfl
/-- An input's staging buffer holds its block at every point. -/
theorem before_0 (c : Dev nD) (t : Fin cfg0.N) (d) : (dat W c).before 0 t d = blk W c 0 t :=
  ((dat W c).before_in_eq_fetched 0 rfl (fun _ => rfl) (fun _ _ _ => rfl) (fun t => by rw [after_0]; unfold Dat.blockOf blk; rw [dat_A]; try rfl) t d).trans
    (fetched_0 W c t d)
theorem before_1 (c : Dev nD) (t : Fin cfg0.N) (d) : (dat W c).before 1 t d = blk W c 1 t :=
  ((dat W c).before_in_eq_fetched 1 rfl (fun _ => rfl) (fun _ _ _ => rfl) (fun t => by rw [after_1]; unfold Dat.blockOf blk; rw [dat_A]; try rfl) t d).trans
    (fetched_1 W c t d)
theorem before_2 (c : Dev nD) (t : Fin cfg0.N) (d) : (dat W c).before 2 t d = blk W c 2 t :=
  ((dat W c).before_in_eq_fetched 2 rfl (fun _ => rfl) (fun _ _ _ => rfl) (fun t => by rw [after_2]; unfold Dat.blockOf blk; rw [dat_A]; try rfl) t d).trans
    (fetched_2 W c t d)
theorem before_3 (c : Dev nD) (t : Fin cfg0.N) (d) : (dat W c).before 3 t d = blk W c 3 t :=
  ((dat W c).before_in_eq_fetched 3 rfl (fun _ => rfl) (fun _ _ _ => rfl) (fun t => by rw [after_3]; unfold Dat.blockOf blk; rw [dat_A]; try rfl) t d).trans
    (fetched_3 W c t d)
theorem before_4 (c : Dev nD) (t : Fin cfg0.N) (d) : (dat W c).before 4 t d = blk W c 4 t :=
  ((dat W c).before_in_eq_fetched 4 rfl (fun _ => rfl) (fun _ _ _ => rfl) (fun t => by rw [after_4]; unfold Dat.blockOf blk; rw [dat_A]; try rfl) t d).trans
    (fetched_4 W c t d)
theorem before_5 (c : Dev nD) (t : Fin cfg0.N) (d) : (dat W c).before 5 t d = blk W c 5 t :=
  ((dat W c).before_in_eq_fetched 5 rfl (fun _ => rfl) (fun _ _ _ => rfl) (fun t => by rw [after_5]; unfold Dat.blockOf blk; rw [dat_A]; try rfl) t d).trans
    (fetched_5 W c t d)

/-- The point before. -/
abbrev pred (t : Fin cfg0.N) : Fin cfg0.N := ⟨t.val - 1, Nat.lt_of_le_of_lt (Nat.sub_le _ _) t.isLt⟩

/-- Inside a batch the source features' block does not move, -/
theorem blk_kept_3 (c : Dev nD) (t : Fin cfg0.N) (ht : t.val % 8 ≠ 0) : blk W c 3 t = blk W c 3 (pred t) := by
  have hf : (cfg0.win 3).fetch t = false := Bool.eq_false_iff.mpr fun h => ht ((fetch0_3 t).mp h)
  obtain ⟨-, hix⟩ := (cfg0.win 3).index_eq_of_fetch rfl t hf
  have h := (dat W c).fetched_congr 3 hix (by rfl) (blk W c 3 t)
  rw [fetched_3, fetched_3] at h
  exact h

/-- nor does the weights' block, -/
theorem blk_kept_4 (c : Dev nD) (t : Fin cfg0.N) (ht : t.val % 8 ≠ 0) : blk W c 4 t = blk W c 4 (pred t) := by
  have hf : (cfg0.win 4).fetch t = false := Bool.eq_false_iff.mpr fun h => by have := (fetch0_4 t).mp h; omega
  obtain ⟨-, hix⟩ := (cfg0.win 4).index_eq_of_fetch rfl t hf
  have h := (dat W c).fetched_congr 4 hix (by rfl) (blk W c 4 t)
  rw [fetched_4, fetched_4] at h
  exact h

/-- so the product stays. -/
theorem zAt_kept (c : Dev nD) (t : Fin cfg0.N) (ht : t.val % 8 ≠ 0) : zAt W c (pred t) = zAt W c t := by
  unfold zAt; rw [blk_kept_3 W c t ht, blk_kept_4 W c t ht]

/-- After the first point the statistics' buffer holds what the point before left. -/
theorem before_7 (c : Dev nD) (t : Fin cfg0.N) (ht : t.val ≠ 0) (d) :
    (dat W c).before 7 t d = acc W c (t.val - 1) (Nat.lt_of_le_of_lt (Nat.sub_le _ _) t.isLt) := by
  rw [(dat W c).before_out_kept 7 rfl t ht ?_ (fun _ => rfl) (fun _ _ => rfl) d, after_7]
  have hN : t.val < 64 := Nat.lt_of_lt_of_eq t.isLt N_0
  refine Bool.eq_false_iff.mpr fun h => ?_
  have := (flush0_7 _).mp h
  simp only at this
  omega

theorem acc_pos (c : Dev nD) (t : Fin cfg0.N) (ht : t.val ≠ 0) :
    acc W c t.val t.isLt = k0_pay1 (F := F) (k0_pay31 (F := F) (blk W c 5 t) (blk W c 2 t) (zAt W c t) (sAt W c t)) (acc W c (t.val - 1) (Nat.lt_of_le_of_lt (Nat.sub_le _ _) t.isLt)) := by
  obtain ⟨n, hn⟩ := t
  cases n with
  | zero => exact absurd rfl ht
  | succ n => rfl

theorem acc_zero (c : Dev nD) (t : Fin cfg0.N) (ht : t.val = 0) :
    acc W c t.val t.isLt = k0_pay1 (F := F) (k0_pay31 (F := F) (blk W c 5 t) (blk W c 2 t) (zAt W c t) (sAt W c t)) (k0_pay33 (F := F)) := by
  obtain ⟨n, hn⟩ := t
  cases n with
  | zero => rfl
  | succ n => exact absurd ht (Nat.succ_ne_zero n)

/-- What the body is called with at point `t`, the windows one by one, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t))

theorem body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3, before_4, before_5]
  rw [show (dat W c).Φ t.succ = inv W c t.succ from rfl, show (dat W c).Φ t.castSucc = inv W c t.castSucc from rfl,
    show (dat W c).owesAt () t.succ = (dat W c).owesAt () t.castSucc from rfl,
    after_0, after_1, after_2, after_3, after_4, after_5, after_6, after_7]
  have hN : t.val < 64 := Nat.lt_of_lt_of_eq t.isLt N_0
  unfold inv
  iintro ⟨⟨⟨%z, %hz, Hz⟩, ⟨%s, Hs⟩, Hrest, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases ht : t.val = 0
  · rw [acc_zero W c t ht]
    iapply (run_first c Set.univ (grid0.coords t) (condZ_iff t |>.mpr (by omega)) (cond_iff t |>.mpr (by omega)) _ _ _ _ _ _ _ _ _ _ _ _ _ _ _ _ _ _ _ _ (blk W c 0 t) (blk W c 1 t) (blk W c 2 t) (blk W c 3 t) (blk W c 4 t) (blk W c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hz]; · iexists _; iexact Hz
    isplitl [Hs]; · iexists _; iexact Hs
    iintro ⟨H0, H1, H2, H3, H4, H5, H6, H7, Hz, Hs⟩
    isplitl [Hz Hs Hrest Hr]
    · isplitl [Hz]
      · iexists _; isplitr
        swap; · iexact Hz
        ipureintro
        intro u hu
        have e : u = t := Fin.ext (by simp only [Fin.val_succ] at hu; omega)
        subst e; rfl
      isplitl [Hs]; · iexists _; iexact Hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  by_cases h8 : t.val % 8 = 0
  · rw [acc_pos W c t ht, before_7 W c t ht]
    iapply (run_row c Set.univ (grid0.coords t) (condZ_iff t |>.mpr (by omega)) (fun h => by have := (cond_iff t).mp h; omega) _ _ _ _ _ _ _ _ _ _ _ _ _ _ _ _ _ _ _ _ (blk W c 0 t) (blk W c 1 t) (blk W c 2 t) (blk W c 3 t) (blk W c 4 t) (blk W c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [Hz]; · iexists _; iexact Hz
    isplitl [Hs]; · iexists _; iexact Hs
    iintro ⟨H0, H1, H2, H3, H4, H5, H6, H7, Hz, Hs⟩
    isplitl [Hz Hs Hrest Hr]
    · isplitl [Hz]
      · iexists _; isplitr
        swap; · iexact Hz
        ipureintro
        intro u hu
        have e : u = t := Fin.ext (by simp only [Fin.val_succ] at hu; omega)
        subst e; rfl
      isplitl [Hs]; · iexists _; iexact Hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain rfl : z = zAt W c t := (hz (pred t) (by simp only [pred, Fin.val_castSucc]; omega)).trans (zAt_kept W c t h8)
    rw [acc_pos W c t ht, before_7 W c t ht]
    iapply (run_next c Set.univ (grid0.coords t) (fun h => by have := (condZ_iff t).mp h; omega) (fun h => by have := (cond_iff t).mp h; omega) _ _ _ _ _ _ _ _ _ _ _ _ _ _ _ _ _ _ _ _ (blk W c 0 t) (blk W c 1 t) (blk W c 2 t) (blk W c 3 t) (blk W c 4 t) (blk W c 5 t) _ (zAt W c t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [Hz]; · iexact Hz
    isplitl [Hs]; · iexists _; iexact Hs
    iintro ⟨H0, H1, H2, H3, H4, H5, H6, H7, Hz, Hs⟩
    isplitl [Hz Hs Hrest Hr]
    · isplitl [Hz]
      · iexists _; isplitr
        swap; · iexact Hz
        ipureintro
        intro u hu
        have e : u = t := Fin.ext (by simp only [Fin.val_succ] at hu; omega)
        subst e; rfl
      isplitl [Hs]; · iexists _; iexact Hs
      isplitl [Hrest]; · iexact Hrest
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dat (F := F) W c) (defs₀ (F := F)) Variants.none () Set.univ := fun t => by
  rw [bigSep_W0, bigSep_W0, defs₀_row]
  exact triple_restated (body W c t) rfl .rfl fun _ => .rfl

/-- The call starts with its buffers at any contents, -/
theorem inv_start (c : Dev nD) : (Pipeline.ΦA spec0 c : sProp 𝕄) ⊢ inv W c 0 := by
  unfold Pipeline.ΦA inv
  rw [scoped_split]
  iintro ⟨⟨⟨%z, Hz⟩, ⟨%s, Hs⟩, Hrest⟩, Hr⟩
  isplitl [Hz]
  · iexists z; isplitr
    · ipureintro; intro u hu; exact absurd hu (by simp)
    rw [owns_whole_eq]; iexists z; isplitr; · ipureintro; rfl
    iexact Hz
  isplitl [Hs]
  · iexists s; rw [owns_whole_eq]; iexists s; isplitr; · ipureintro; rfl
    iexact Hs
  isplitl [Hrest]; · iexact Hrest
  iexact Hr

/-- and returns them at any. -/
theorem inv_end (c : Dev nD) (t : Fin (cfg0.N + 1)) : inv W c t ⊢ (Pipeline.ΦA spec0 c : sProp 𝕄) := by
  unfold Pipeline.ΦA inv
  rw [scoped_split]
  simp only [owns_whole_eq]
  iintro ⟨⟨%z, -, %f, -, Hz⟩, ⟨%s, %g, -, Hs⟩, Hrest, Hr⟩
  isplitl [Hz Hs Hrest]
  · isplitl [Hz]; · iexists _; iexact Hz
    isplitl [Hs]; · iexists _; iexact Hs
    iexact Hrest
  iexact Hr

end Cert.KernelIdeal.PassA

end
-- ==== Proof.IdealPassB.lean ====
/-
  The second call (`pass_b`) of the idealized program: its body run on whole staging buffers, at the first point (which
  clears the statistics) and at a later one (which adds to them), and the proof data of its pipeline over any contents
  `W` the call finds. Window 5 ends each point at the second layer's block, window 6 at the running statistics `acc`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Pipeline.ValueKit.Tiles

@[expose] public section

set_option maxRecDepth 16384

noncomputable section

namespace Cert.KernelIdeal.PassB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem off3 : (![0, 0, 0] : Fin 3 → ℕ) = fun _ => 0 := by funext a; fin_cases a <;> rfl
theorem off2 : (![0, 0] : Fin 2 → ℕ) = fun _ => 0 := by funext a; fin_cases a <;> rfl

abbrev rSt : Rect S256x2 := Rect.unit (s := S256x2) ![0, 0] S256x2.size inb_S256x2_S256x2_0_0
abbrev rCol : Rect S256x1 := Rect.unit (s := S256x1) ![0, 0] S256x1.size inb_S256x1_S256x1_0_0
abbrev rSq : Rect S256x256 := Rect.unit (s := S256x256) ![0, 0] S256x256.size inb_S256x256_S256x256_0_0
abbrev rBlk : Rect S1x256x1024 := Rect.unit (s := S1x256x1024) ![0, 0, 0] S1x256x1024.size inb_S1x256x1024_S1x256x1024_0_0_0

/-- The condition on which the body clears the statistics, from the grid coordinates. -/
abbrev cond (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem cond_iff : ∀ t : Fin cfg1.N, cond (grid1.coords t) ↔ t.val % 32 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [cond, e0, e1]
    word_cmp
   : ∀ t : Fin grid1.N, cond (grid1.coords t) ↔ t.val % 32 = 0)

set_option maxHeartbeats 1000000 in
/-- The body at the first point: the statistics cleared, then this block's added. -/
theorem run_first (c : Dev nD) (E : Set ℕ) (i : grid1.Coords) (hc0 : cond i) (arg2 : Memref sig .tc .vmem S1x256x1024 .bf16) (harg2 : arg2.IsWhole) (arg3 : Memref sig .tc .vmem S256x2 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x256 .f32) (harg6 : arg6.IsWhole) (arg7 : Memref sig .tc .vmem S1x256x1024 .bf16) (harg7 : arg7.IsWhole) (arg8 : Memref sig .tc .vmem S256x2 .f32) (harg8 : arg8.IsWhole)
    (x0 : Vec F S1x256x1024 .bf16) (x1 : Vec F S256x2 .f32) (x2 : Vec F S256x1 .f32) (x3 : Vec F S256x1 .f32) (x4 : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay4 x1 x2 x3 x0 x4) ∗ owns (c : Thread nD τ) arg8 fullShare (k1_pay2 (k1_pay3 x1 x2 x3 x0 x4) (k1_pay1 (F := F)))) -∗ K ⟨⟩))
      ⊢ wp frame (wpE (defs₀ (F := F)) Variants.none c none) E (cc1__pass_b i arg2 harg2 arg3 harg3 arg4 harg4 arg5 harg5 arg6 harg6 arg7 harg7 arg8 harg8) K := by
  simp only [cc1__pass_b_eq_skeleton]; unfold cc1__pass_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (View.cover_of_tiled_head _ _ _ (by rfl))).trans ((View.canon_cons_unit_zero off3 _ _ _).trans ?_)
    show k1_pay4 (F := F) (View.ld (arg3.view.read (Elt F) f1) rSt) (View.ld (arg4.view.read (Elt F) f2) rCol) (View.ld (arg5.view.read (Elt F) f3) rCol) (View.ld (arg2.view.read (Elt F) f0) rBlk) (View.ld (arg6.view.read (Elt F) f4) rSq) = _
    rw [View.ld_unit_zero off2, View.ld_unit_zero off2, View.ld_unit_zero off2, View.ld_unit_zero off3, View.ld_unit_zero off2]
  iexists _; isplitr
  swap; · iexact H6
  ipureintro
  refine (View.read_writes_eq_canon _ _ _ (View.cover_of_tiled_head _ _ _ (by rfl))).trans ((View.canon_cons_unit_zero off2 _ _ _).trans ?_)
  show k1_pay2 (F := F) (k1_pay3 (F := F) (View.ld (arg3.view.read (Elt F) f1) rSt) (View.ld (arg4.view.read (Elt F) f2) rCol) (View.ld (arg5.view.read (Elt F) f3) rCol) (View.ld (arg2.view.read (Elt F) f0) rBlk) (View.ld (arg6.view.read (Elt F) f4) rSq)) (View.readCov arg8.view [⟨rSt, k1_pay1 (F := F)⟩] rSt.toLoadRect) = _
  rw [View.readCov_unit_zero _ off2, View.ld_unit_zero off2, View.ld_unit_zero off2, View.ld_unit_zero off2, View.ld_unit_zero off3, View.ld_unit_zero off2]

set_option maxHeartbeats 1000000 in
/-- The body at a later point: this block's statistics added to those held. -/
theorem run_next (c : Dev nD) (E : Set ℕ) (i : grid1.Coords) (hc0 : ¬cond i) (arg2 : Memref sig .tc .vmem S1x256x1024 .bf16) (harg2 : arg2.IsWhole) (arg3 : Memref sig .tc .vmem S256x2 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x256 .f32) (harg6 : arg6.IsWhole) (arg7 : Memref sig .tc .vmem S1x256x1024 .bf16) (harg7 : arg7.IsWhole) (arg8 : Memref sig .tc .vmem S256x2 .f32) (harg8 : arg8.IsWhole)
    (x0 : Vec F S1x256x1024 .bf16) (x1 : Vec F S256x2 .f32) (x2 : Vec F S256x1 .f32) (x3 : Vec F S256x1 .f32) (x4 : Vec F S256x256 .f32) (x6 : Vec F S256x2 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay4 x1 x2 x3 x0 x4) ∗ owns (c : Thread nD τ) arg8 fullShare (k1_pay2 (k1_pay3 x1 x2 x3 x0 x4) x6)) -∗ K ⟨⟩))
      ⊢ wp frame (wpE (defs₀ (F := F)) Variants.none c none) E (cc1__pass_b i arg2 harg2 arg3 harg3 arg4 harg4 arg5 harg5 arg6 harg6 arg7 harg7 arg8 harg8) K := by
  simp only [cc1__pass_b_eq_skeleton]; unfold cc1__pass_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (View.cover_of_tiled_head _ _ _ (by rfl))).trans ((View.canon_cons_unit_zero off3 _ _ _).trans ?_)
    show k1_pay4 (F := F) (View.ld (arg3.view.read (Elt F) f1) rSt) (View.ld (arg4.view.read (Elt F) f2) rCol) (View.ld (arg5.view.read (Elt F) f3) rCol) (View.ld (arg2.view.read (Elt F) f0) rBlk) (View.ld (arg6.view.read (Elt F) f4) rSq) = _
    rw [View.ld_unit_zero off2, View.ld_unit_zero off2, View.ld_unit_zero off2, View.ld_unit_zero off3, View.ld_unit_zero off2]
  iexists _; isplitr
  swap; · iexact H6
  ipureintro
  refine (View.read_writes_eq_canon _ _ _ (View.cover_of_tiled_head _ _ _ (by rfl))).trans ((View.canon_cons_unit_zero off2 _ _ _).trans ?_)
  show k1_pay2 (F := F) (k1_pay3 (F := F) (View.ld (arg3.view.read (Elt F) f1) rSt) (View.ld (arg4.view.read (Elt F) f2) rCol) (View.ld (arg5.view.read (Elt F) f3) rCol) (View.ld (arg2.view.read (Elt F) f0) rBlk) (View.ld (arg6.view.read (Elt F) f4) rSq)) (View.ld (arg8.view.read (Elt F) f6) rSt) = _
  rw [View.ld_unit_zero off2, View.ld_unit_zero off2, View.ld_unit_zero off2, View.ld_unit_zero off3, View.ld_unit_zero off2, View.ld_unit_zero off2]

variable (W : Dev nD → Valuation τ sig (Elt F))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The second layer's block at point `t`, before the statistics are taken. -/
def lay (c : Dev nD) (t : Fin cfg1.N) : FVec F S256x1024 .f32 :=
  k1_pay3 (F := F) (blk W c 1 t) (blk W c 2 t) (blk W c 3 t) (blk W c 0 t) (blk W c 4 t)

/-- The running statistics after point `n`: cleared at the first, each block's added. -/
def acc (c : Dev nD) : (n : ℕ) → n < cfg1.N → FVec F S256x2 .f32
  | 0, h => k1_pay2 (F := F) (lay W c ⟨0, h⟩) (k1_pay1 (F := F))
  | n + 1, h => k1_pay2 (F := F) (lay W c ⟨n + 1, h⟩) (acc c n (Nat.lt_of_succ_lt h))

/-- The proof data of the pipeline over the contents `W`. -/
def dat (c : Dev nD) : Dat τ (Elt F) Unit ℕ (UR sig nD τ) ℕ cfg1 c where
  A w := W c (Pipeline.arrRef spec1 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => k1_pay4 (F := F) (blk W c 1 t) (blk W c 2 t) (blk W c 3 t) (blk W c 0 t) (blk W c 4 t)
    | ⟨6, _⟩ => acc W c t.val t.isLt
  Φ _ := Pipeline.ΦA spec1 c
  q _ := fullShare
  owed _ := 0

theorem dat_A (c : Dev nD) (w : Fin cfg1.W) : (dat W c).A w = W c (Pipeline.arrRef spec1 w) := by dsimp only [dat]

theorem after_0 (c : Dev nD) (t : Fin cfg1.N) : (dat W c).after 0 t = blk W c 0 t := by dsimp only [dat]
theorem after_1 (c : Dev nD) (t : Fin cfg1.N) : (dat W c).after 1 t = blk W c 1 t := by dsimp only [dat]
theorem after_2 (c : Dev nD) (t : Fin cfg1.N) : (dat W c).after 2 t = blk W c 2 t := by dsimp only [dat]
theorem after_3 (c : Dev nD) (t : Fin cfg1.N) : (dat W c).after 3 t = blk W c 3 t := by dsimp only [dat]
theorem after_4 (c : Dev nD) (t : Fin cfg1.N) : (dat W c).after 4 t = blk W c 4 t := by dsimp only [dat]
theorem after_5 (c : Dev nD) (t : Fin cfg1.N) : (dat W c).after 5 t = k1_pay4 (F := F) (blk W c 1 t) (blk W c 2 t) (blk W c 3 t) (blk W c 0 t) (blk W c 4 t) := by dsimp only [dat]
theorem after_6 (c : Dev nD) (t : Fin cfg1.N) : (dat W c).after 6 t = acc W c t.val t.isLt := by dsimp only [dat]

/-- An input's staging buffer holds its block at every point. -/
theorem before_0 (c : Dev nD) (t : Fin cfg1.N) (d) : (dat W c).before 0 t d = blk W c 0 t :=
  ((dat W c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat W c).before 1 t d = blk W c 1 t :=
  ((dat W c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)
theorem before_2 (c : Dev nD) (t : Fin cfg1.N) (d) : (dat W c).before 2 t d = blk W c 2 t :=
  ((dat W c).before_in_eq_fetched 2 rfl (fun _ => rfl) (fun _ _ _ => rfl) (fun t => by rw [after_2]; unfold Dat.blockOf blk; rw [dat_A]; try rfl) t d).trans
    (by unfold Dat.fetched Dat.blockOf blk; rw [dat_A]; try rfl)
theorem before_3 (c : Dev nD) (t : Fin cfg1.N) (d) : (dat W c).before 3 t d = blk W c 3 t :=
  ((dat W c).before_in_eq_fetched 3 rfl (fun _ => rfl) (fun _ _ _ => rfl) (fun t => by rw [after_3]; unfold Dat.blockOf blk; rw [dat_A]; try rfl) t d).trans
    (by unfold Dat.fetched Dat.blockOf blk; rw [dat_A]; try rfl)
theorem before_4 (c : Dev nD) (t : Fin cfg1.N) (d) : (dat W c).before 4 t d = blk W c 4 t :=
  ((dat W c).before_in_eq_fetched 4 rfl (fun _ => rfl) (fun _ _ _ => rfl) (fun t => by rw [after_4]; unfold Dat.blockOf blk; rw [dat_A]; try rfl) t d).trans
    (by unfold Dat.fetched Dat.blockOf blk; rw [dat_A]; try rfl)
/-- After the first point the statistics' buffer holds what the point before left. -/
theorem before_6 (c : Dev nD) (t : Fin cfg1.N) (ht : t.val ≠ 0) (d) :
    (dat W c).before 6 t d = acc W c (t.val - 1) (Nat.lt_of_le_of_lt (Nat.sub_le _ _) t.isLt) := by
  rw [(dat W c).before_out_kept 6 rfl t ht ?_ (fun _ => rfl) (fun _ _ => rfl) d, after_6]
  have hN : t.val < 32 := Nat.lt_of_lt_of_eq t.isLt N_1
  refine Bool.eq_false_iff.mpr fun h => ?_
  have := (flush1_6 _).mp h
  simp only at this
  omega

theorem acc_pos (c : Dev nD) (t : Fin cfg1.N) (ht : t.val ≠ 0) :
    acc W c t.val t.isLt = k1_pay2 (F := F) (lay W c t) (acc W c (t.val - 1) (Nat.lt_of_le_of_lt (Nat.sub_le _ _) t.isLt)) := by
  obtain ⟨n, hn⟩ := t
  cases n with
  | zero => exact absurd rfl ht
  | succ n => rfl

theorem acc_zero (c : Dev nD) (t : Fin cfg1.N) (ht : t.val = 0) :
    acc W c t.val t.isLt = k1_pay2 (F := F) (lay W c t) (k1_pay1 (F := F)) := by
  obtain ⟨n, hn⟩ := t
  cases n with
  | zero => rfl
  | succ n => exact absurd ht (Nat.succ_ne_zero n)

/-- What the body is called with at point `t`, the windows one by one, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d)))

/-- and what it returns. -/
def bodyPost (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ owns (c : Thread nD τ) (st1_6 t) fullShare ((dat W c).after 6 t))

theorem body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4]
  rw [show (dat W c).Φ t.succ = (dat W c).Φ t.castSucc from rfl,
    show (dat W c).owesAt () t.succ = (dat W c).owesAt () t.castSucc from rfl,
    after_0, after_1, after_2, after_3, after_4, after_5, after_6]
  have hN : t.val < 32 := Nat.lt_of_lt_of_eq t.isLt N_1
  iintro ⟨HΦ, Ho, ⟨%d0, H0⟩, ⟨%d1, H1⟩, ⟨%d2, H2⟩, ⟨%d3, H3⟩, ⟨%d4, H4⟩, ⟨%d5, H5⟩, ⟨%d6, H6⟩⟩
  by_cases ht : t.val = 0
  · rw [acc_zero W c t ht]
    iapply (run_first c Set.univ (grid1.coords t) ((cond_iff t).mpr (by omega)) _ _ _ _ _ _ _ _ _ _ _ _ _ _ (blk W c 0 t) (blk W c 1 t) (blk W c 2 t) (blk W c 3 t) (blk W c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc_pos W c t ht, before_6 W c t ht]
    iapply (run_next c Set.univ (grid1.coords t) (fun h => by have := (cond_iff t).mp h; omega) _ _ _ _ _ _ _ _ _ _ _ _ _ _ (blk W c 0 t) (blk W c 1 t) (blk W c 2 t) (blk W c 3 t) (blk W c 4 t) _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`. -/
theorem defs₀_row (t : Fin cfg1.N) :
    defs₀ (F := F) .tc cfg1.body (cfg1.bodyArgs t (cfg1.slots t)) = bodyAt1 t := by
  unfold defs₀; rw [Defs.onTc_tc]

/-- The library's obligation of the body, at every point. -/
theorem body_obligation (c : Dev nD) : BodyObligation (dat (F := F) W c) (defs₀ (F := F)) Variants.none () Set.univ := fun t => by
  rw [bigSep_W1, bigSep_W1, defs₀_row]
  exact triple_restated (body W c t) rfl .rfl fun _ => .rfl

end Cert.KernelIdeal.PassB

end
-- ==== Proof.IdealPassC.lean ====
/-
  The third call (`pass_c`) of the idealized program: its body run on whole staging buffers, and the proof data of its
  pipeline over any contents `W` the call finds. Window 4 (the result) ends each point at the payload of the body's
  one store, read over the input windows' blocks.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic

@[expose] public section

set_option maxRecDepth 16384

noncomputable section

namespace Cert.KernelIdeal.PassC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem off3 : (![0, 0, 0] : Fin 3 → ℕ) = fun _ => 0 := by funext a; fin_cases a <;> rfl
theorem off2 : (![0, 0] : Fin 2 → ℕ) = fun _ => 0 := by funext a; fin_cases a <;> rfl

abbrev rSt : Rect S256x2 := Rect.unit (s := S256x2) ![0, 0] S256x2.size inb_S256x2_S256x2_0_0
abbrev rCol : Rect S256x1 := Rect.unit (s := S256x1) ![0, 0] S256x1.size inb_S256x1_S256x1_0_0
abbrev rBlk : Rect S1x256x1024 := Rect.unit (s := S1x256x1024) ![0, 0, 0] S1x256x1024.size inb_S1x256x1024_S1x256x1024_0_0_0

/-- A buffer stored whole by one store covers every index. -/
theorem cover_out (p0 : Vec F S1x256x1024 .f32) (y : S1x256x1024.Idx) :
    ∃ pc ∈ ([⟨Rect.unit (s := S1x256x1024) ![0, 0, 0] S1x256x1024.size inb_S1x256x1024_S1x256x1024_0_0_0, p0⟩] : List (View.Piece (Elt F) S1x256x1024 .f32)), y ∈ pc.1.set :=
  View.cover_of_tiled [⟨Rect.unit (s := S1x256x1024) ![0, 0, 0] S1x256x1024.size inb_S1x256x1024_S1x256x1024_0_0_0, p0⟩] S1x256x1024.size (by rfl) y

set_option maxHeartbeats 1000000 in
/-- The body on whole staging buffers: the inputs' kept, the result's left at the payload. -/
theorem run (c : Dev nD) (E : Set ℕ) (i : grid2.Coords) (arg2 : Memref sig .tc .vmem S1x256x1024 .bf16) (harg2 : arg2.IsWhole) (arg3 : Memref sig .tc .vmem S256x2 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x1024 .f32) (harg6 : arg6.IsWhole)
    (x0 : Vec F S1x256x1024 .bf16) (x1 : Vec F S256x2 .f32) (x2 : Vec F S256x1 .f32) (x3 : Vec F S256x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay1 x1 x2 x3 x0)) -∗ K ⟨⟩))
      ⊢ wp frame (wpE (defs₀ (F := F)) Variants.none c none) E (cc2__pass_c i arg2 harg2 arg3 harg3 arg4 harg4 arg5 harg5 arg6 harg6) K := by
  simp only [cc2__pass_c_eq_skeleton]; unfold cc2__pass_c_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover_out _)).trans ((View.canon_unit_zero off3 _ _).trans ?_)
  show k2_pay1 (F := F) (View.ld (arg3.view.read (Elt F) f1) rSt) (View.ld (arg4.view.read (Elt F) f2) rCol) (View.ld (arg5.view.read (Elt F) f3) rCol) (View.ld (arg2.view.read (Elt F) f0) rBlk) = _
  rw [View.ld_unit_zero off2, View.ld_unit_zero off2, View.ld_unit_zero off2, View.ld_unit_zero off3]

variable (W : Dev nD → Valuation τ sig (Elt F))

/-- Window `w`'s block at point `t`, read off its array as the call finds it. -/
def blk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The proof data of the pipeline over the contents `W`. -/
def dat (c : Dev nD) : Dat τ (Elt F) Unit ℕ (UR sig nD τ) ℕ cfg2 c where
  A w := W c (Pipeline.arrRef spec2 w)
  after w t := match w with
    | ⟨0, _⟩ => blk W c 0 t
    | ⟨1, _⟩ => blk W c 1 t
    | ⟨2, _⟩ => blk W c 2 t
    | ⟨3, _⟩ => blk W c 3 t
    | ⟨4, _⟩ => k2_pay1 (F := F) (blk W c 1 t) (blk W c 2 t) (blk W c 3 t) (blk W c 0 t)
  Φ _ := Pipeline.ΦA spec2 c
  q _ := fullShare
  owed _ := 0

theorem dat_A (c : Dev nD) (w : Fin cfg2.W) : (dat W c).A w = W c (Pipeline.arrRef spec2 w) := by dsimp only [dat]

theorem after_0 (c : Dev nD) (t : Fin cfg2.N) : (dat W c).after 0 t = blk W c 0 t := by dsimp only [dat]
theorem after_1 (c : Dev nD) (t : Fin cfg2.N) : (dat W c).after 1 t = blk W c 1 t := by dsimp only [dat]
theorem after_2 (c : Dev nD) (t : Fin cfg2.N) : (dat W c).after 2 t = blk W c 2 t := by dsimp only [dat]
theorem after_3 (c : Dev nD) (t : Fin cfg2.N) : (dat W c).after 3 t = blk W c 3 t := by dsimp only [dat]
theorem after_4 (c : Dev nD) (t : Fin cfg2.N) : (dat W c).after 4 t = k2_pay1 (F := F) (blk W c 1 t) (blk W c 2 t) (blk W c 3 t) (blk W c 0 t) := by dsimp only [dat]

/-- An input's staging buffer holds its block at every point. -/
theorem before_0 (c : Dev nD) (t : Fin cfg2.N) (d) : (dat W c).before 0 t d = blk W c 0 t :=
  ((dat W c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg2.N) (d) : (dat W c).before 1 t d = blk W c 1 t :=
  ((dat W c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)
theorem before_2 (c : Dev nD) (t : Fin cfg2.N) (d) : (dat W c).before 2 t d = blk W c 2 t :=
  ((dat W c).before_in_eq_fetched 2 rfl (fun _ => rfl) (fun _ _ _ => rfl) (fun t => by rw [after_2]; unfold Dat.blockOf blk; rw [dat_A]; try rfl) t d).trans
    (by unfold Dat.fetched Dat.blockOf blk; rw [dat_A]; try rfl)
theorem before_3 (c : Dev nD) (t : Fin cfg2.N) (d) : (dat W c).before 3 t d = blk W c 3 t :=
  ((dat W c).before_in_eq_fetched 3 rfl (fun _ => rfl) (fun _ _ _ => rfl) (fun t => by rw [after_3]; unfold Dat.blockOf blk; rw [dat_A]; try rfl) t d).trans
    (by unfold Dat.fetched Dat.blockOf blk; rw [dat_A]; try rfl)

/-- What the body is called with at point `t`, the windows one by one, -/
def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d)))

/-- and what it returns. -/
def bodyPost (c : Dev nD) (t : Fin cfg2.N) : sProp 𝕄 :=
  iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t))

theorem body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3]
  rw [show (dat W c).Φ t.succ = (dat W c).Φ t.castSucc from rfl,
    show (dat W c).owesAt () t.succ = (dat W c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (run c Set.univ (grid2.coords t) _ _ _ _ _ _ _ _ _ _ (blk W c 0 t) (blk W c 1 t) (blk W c 2 t) (blk W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`. -/
theorem defs₀_row (t : Fin cfg2.N) :
    defs₀ (F := F) .tc cfg2.body (cfg2.bodyArgs t (cfg2.slots t)) = bodyAt2 t := by
  unfold defs₀; rw [Defs.onTc_tc]

/-- The library's obligation of the body, at every point. -/
theorem body_obligation (c : Dev nD) : BodyObligation (dat (F := F) W c) (defs₀ (F := F)) Variants.none () Set.univ := fun t => by
  rw [bigSep_W2, bigSep_W2, defs₀_row]
  exact triple_restated (body W c t) rfl .rfl fun _ => .rfl

end Cert.KernelIdeal.PassC

end
-- ==== Proof.IdealRun.lean ====
/-
  The run of the idealized program: the host's stretch, then the three calls, the unscoped buffers held between them at
  `U1` to `U4`. Every execution ends with the result's buffer at `U4`'s, the arguments as launched and every semaphore
  counter at zero.
-/
module

public import proofs.«01_k».proof.Proof.IdealPassA
public import proofs.«01_k».proof.Proof.IdealPassB
public import proofs.«01_k».proof.Proof.IdealPassC
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The unscoped buffers after the host's stretch, -/
abbrev U1 (c : Dev nD) : Valuation τ sig (Elt F) := V1 m c
/-- after the first call, -/
def U2 (c : Dev nD) : Valuation τ sig (Elt F) := Pipeline.afterRegion (PassA.dat (U1 m) c) (U1 m c)
/-- after the second, -/
def U3 (c : Dev nD) : Valuation τ sig (Elt F) := Pipeline.afterRegion (PassB.dat (U2 m) c) (U2 m c)
/-- and after the third. -/
def U4 (c : Dev nD) : Valuation τ sig (Elt F) := Pipeline.afterRegion (PassC.dat (U3 m) c) (U3 m c)

/-- The calls' proof data. -/
def pdats : (p : Fin 3) → (c : Dev nD) → Dat τ (Elt F) Unit ℕ (UR sig nD τ) ℕ (cfgs p) c
  | ⟨0, _⟩ => PassA.dat (U1 m)
  | ⟨1, _⟩ => PassB.dat (U2 m)
  | ⟨2, _⟩ => PassC.dat (U3 m)

/-- Every semaphore of a TensorCore is awaited at the one index there is, -/
def lvs (g : GSem nD τ sig) : Finset Unit := if g.1.2 = .tc then {()} else ∅
/-- at the one level. -/
def lvl (_ : GSem nD τ sig) (_ : Unit) : ℕ := 0

theorem cut (p : Fin 3) : Pipeline.LevelCut (pcfgs (F := F)) adm () lvs lvl p (fun _ : Dev nD => 0) (fun _ => 0) where
  hι _ _ _ := by show () ∈ (if _ = _ then _ else _ : Finset Unit); rw [if_pos rfl]; exact Finset.mem_singleton_self _
  hιb _ _ _ := Nat.le_refl 0
  hD _ _ _ h := absurd h (Nat.lt_irrefl 0)

/-- What rides between the segments beside the buffers. -/
def between (c : Dev nD) : sProp 𝕄 :=
  iprop((∃ Wd, owes (c : Thread nD τ) (0 : CellTallies nD τ sig Unit) Wd) ∗ (∃ r, prngReg c r) ∗ emp)

/-- Call 0's arrays are unscoped buffers. -/
theorem arr_sub0 : Pipeline.arrRefs (τ := τ) spec0 ⊆ Pipeline.ucRefs τ sig := Pipeline.arrRefs_sub_ucRefs spec0 (by decide)

set_option maxHeartbeats 4000000 in
/-- Call 0's segment, entered from every unscoped buffer held and left so. -/
def region0 : RegionSeg (pcfgs (F := F)) adm (pdats m) () defs₀ Variants.none lvs lvl 0 :=
  RegionSeg.ofHeldIn (pcfgs (F := F)) adm (pdats m) () defs₀ Variants.none lvs lvl 0 (fun _ => 0) (Pipeline.ucRefs τ sig)
    (fun c => iprop(∃ r, prngReg c r)) (fun c => iprop(∃ r, prngReg c r)) launch0.toP rfl
    (fun c => (PassA.body_obligation (U1 m) c).loose) (fun _ _ => rfl) (fun _ => rfl)
    (fun c w => (PassA.dat (U1 m) c).share_full (fun _ => rfl) w)
    (fun c => PassA.inv_start (U1 m) c) (fun c => PassA.inv_end (U1 m) c _) (fun _ => 0) (cut 0) (fun _ => iprop(emp)) (U1 m)
    (fun c w => PassA.dat_A (U1 m) c w)

theorem region0_pre (c : Dev nD) :
    (iprop(StableHlo.held (c : Thread nD τ) (Pipeline.ucRefs τ sig) (U1 m c) ∗ between c) : sProp 𝕄) ⊢ (region0 m).pre c := by
  unfold between region0
  exact RegionSeg.ofHeldIn_pre (X := fun c => iprop(∃ r, prngReg c r)) (Y := fun c => iprop(∃ r, prngReg c r)) (R := fun _ => iprop(emp)) (pcs := pcfgs (F := F)) (a := adm) (pdats := pdats m) (ι := ()) (defs₀ := defs₀) (𝒱₀ := Variants.none) (L := lvs) (lv := lvl) (p := 0) (D := fun _ => 0) (W := U1 m) arr_sub0 c

theorem region0_post (c : Dev nD) :
    (region0 m).post c ⊢ iprop(StableHlo.held (c : Thread nD τ) (Pipeline.ucRefs τ sig) (U2 m c) ∗ between c) := by
  unfold between region0
  exact RegionSeg.ofHeldIn_post (X := fun c => iprop(∃ r, prngReg c r)) (Y := fun c => iprop(∃ r, prngReg c r)) (R := fun _ => iprop(emp)) (pcs := pcfgs (F := F)) (a := adm) (pdats := pdats m) (ι := ()) (defs₀ := defs₀) (𝒱₀ := Variants.none) (L := lvs) (lv := lvl) (p := 0) (D := fun _ => 0) (W := U1 m) arr_sub0 c

/-- Call 1's arrays are unscoped buffers. -/
theorem arr_sub1 : Pipeline.arrRefs (τ := τ) spec1 ⊆ Pipeline.ucRefs τ sig := Pipeline.arrRefs_sub_ucRefs spec1 (by decide)

set_option maxHeartbeats 4000000 in
/-- Call 1's segment, entered from every unscoped buffer held and left so. -/
def region1 : RegionSeg (pcfgs (F := F)) adm (pdats m) () defs₀ Variants.none lvs lvl 1 :=
  RegionSeg.ofHeldIn (pcfgs (F := F)) adm (pdats m) () defs₀ Variants.none lvs lvl 1 (fun _ => 0) (Pipeline.ucRefs τ sig)
    (fun c => iprop(∃ r, prngReg c r)) (fun c => iprop(∃ r, prngReg c r)) launch1.toP rfl
    (fun c => (PassB.body_obligation (U2 m) c).loose) (fun _ _ => rfl) (fun _ => rfl)
    (fun c w => (PassB.dat (U2 m) c).share_full (fun _ => rfl) w)
    (fun c => .rfl) (fun c => .rfl) (fun _ => 0) (cut 1) (fun _ => iprop(emp)) (U2 m)
    (fun c w => PassB.dat_A (U2 m) c w)

theorem region1_pre (c : Dev nD) :
    (iprop(StableHlo.held (c : Thread nD τ) (Pipeline.ucRefs τ sig) (U2 m c) ∗ between c) : sProp 𝕄) ⊢ (region1 m).pre c := by
  unfold between region1
  exact RegionSeg.ofHeldIn_pre (X := fun c => iprop(∃ r, prngReg c r)) (Y := fun c => iprop(∃ r, prngReg c r)) (R := fun _ => iprop(emp)) (pcs := pcfgs (F := F)) (a := adm) (pdats := pdats m) (ι := ()) (defs₀ := defs₀) (𝒱₀ := Variants.none) (L := lvs) (lv := lvl) (p := 1) (D := fun _ => 0) (W := U2 m) arr_sub1 c

theorem region1_post (c : Dev nD) :
    (region1 m).post c ⊢ iprop(StableHlo.held (c : Thread nD τ) (Pipeline.ucRefs τ sig) (U3 m c) ∗ between c) := by
  unfold between region1
  exact RegionSeg.ofHeldIn_post (X := fun c => iprop(∃ r, prngReg c r)) (Y := fun c => iprop(∃ r, prngReg c r)) (R := fun _ => iprop(emp)) (pcs := pcfgs (F := F)) (a := adm) (pdats := pdats m) (ι := ()) (defs₀ := defs₀) (𝒱₀ := Variants.none) (L := lvs) (lv := lvl) (p := 1) (D := fun _ => 0) (W := U2 m) arr_sub1 c

/-- Call 2's arrays are unscoped buffers. -/
theorem arr_sub2 : Pipeline.arrRefs (τ := τ) spec2 ⊆ Pipeline.ucRefs τ sig := Pipeline.arrRefs_sub_ucRefs spec2 (by decide)

set_option maxHeartbeats 4000000 in
/-- Call 2's segment, entered from every unscoped buffer held and left so. -/
def region2 : RegionSeg (pcfgs (F := F)) adm (pdats m) () defs₀ Variants.none lvs lvl 2 :=
  RegionSeg.ofHeldIn (pcfgs (F := F)) adm (pdats m) () defs₀ Variants.none lvs lvl 2 (fun _ => 0) (Pipeline.ucRefs τ sig)
    (fun c => iprop(∃ r, prngReg c r)) (fun c => iprop(∃ r, prngReg c r)) launch2.toP rfl
    (fun c => (PassC.body_obligation (U3 m) c).loose) (fun _ _ => rfl) (fun _ => rfl)
    (fun c w => (PassC.dat (U3 m) c).share_full (fun _ => rfl) w)
    (fun c => .rfl) (fun c => .rfl) (fun _ => 0) (cut 2) (fun _ => iprop(emp)) (U3 m)
    (fun c w => PassC.dat_A (U3 m) c w)

theorem region2_pre (c : Dev nD) :
    (iprop(StableHlo.held (c : Thread nD τ) (Pipeline.ucRefs τ sig) (U3 m c) ∗ between c) : sProp 𝕄) ⊢ (region2 m).pre c := by
  unfold between region2
  exact RegionSeg.ofHeldIn_pre (X := fun c => iprop(∃ r, prngReg c r)) (Y := fun c => iprop(∃ r, prngReg c r)) (R := fun _ => iprop(emp)) (pcs := pcfgs (F := F)) (a := adm) (pdats := pdats m) (ι := ()) (defs₀ := defs₀) (𝒱₀ := Variants.none) (L := lvs) (lv := lvl) (p := 2) (D := fun _ => 0) (W := U3 m) arr_sub2 c

theorem region2_post (c : Dev nD) :
    (region2 m).post c ⊢ iprop(StableHlo.held (c : Thread nD τ) (Pipeline.ucRefs τ sig) (U4 m c) ∗ between c) := by
  unfold between region2
  exact RegionSeg.ofHeldIn_post (X := fun c => iprop(∃ r, prngReg c r)) (Y := fun c => iprop(∃ r, prngReg c r)) (R := fun _ => iprop(emp)) (pcs := pcfgs (F := F)) (a := adm) (pdats := pdats m) (ι := ()) (defs₀ := defs₀) (𝒱₀ := Variants.none) (L := lvs) (lv := lvl) (p := 2) (D := fun _ => 0) (W := U3 m) arr_sub2 c

/-- A buffer no call writes is at the end as after the host's stretch. -/
theorem U4_keeps (c : Dev nD) (r : Ref sig .tc) (h0 : ∀ w, Pipeline.arrRef spec0 w = r → (cfg0.win w).isOut = false)
    (h1 : ∀ w, Pipeline.arrRef spec1 w = r → (cfg1.win w).isOut = false) (h2 : ∀ w, Pipeline.arrRef spec2 w = r → (cfg2.win w).isOut = false) :
    U4 m c r = U1 m c r :=
  (Pipeline.afterRegion_keeps (PassC.dat (U3 m) c) (U3 m c) winFacts2.arr_inj (fun _ => rfl) r h2).trans
    ((Pipeline.afterRegion_keeps (PassB.dat (U2 m) c) (U2 m c) winFacts1.arr_inj (fun _ => rfl) r h1).trans
      (Pipeline.afterRegion_keeps (PassA.dat (U1 m) c) (U1 m c) winFacts0.arr_inj (fun _ => rfl) r h0))

/-- So is every argument as launched. -/
theorem U4_arg (c : Dev nD) (r : Ref sig .tc) (h : r ∉ hostOps0_W) (h0 : ∀ w, Pipeline.arrRef spec0 w = r → (cfg0.win w).isOut = false)
    (h1 : ∀ w, Pipeline.arrRef spec1 w = r → (cfg1.win w).isOut = false) (h2 : ∀ w, Pipeline.arrRef spec2 w = r → (cfg2.win w).isOut = false) :
    U4 m c r = m ((c : Thread nD τ).loc r) :=
  (U4_keeps m c r h0 h1 h2).trans ((V1_of m c r h).trans rfl)

/-- What a core is launched with gives the first segment's entry. -/
theorem launch_core (ρ : Dev nD → PrngReg) (c : Dev nD) :
    (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
      ⊢ iprop(StableHlo.held (c : Thread nD τ) (Pipeline.ucRefs τ sig) (V0 m c) ∗ between c) := by
  rw [← Pipeline.unscopedBufs_held (Ix := Unit) (Name := ℕ) (U := UR sig nD τ) (Lvl := ℕ) c (V0 m c)]
  unfold between
  iintro ⟨Hb, -, Ho, -, Hp, -⟩
  isplitl [Hb]; · iexact Hb
  isplitl [Ho]; · iexists _; iexact Ho
  isplitl [Hp]; · iexists _; iexact Hp
  iempintro

set_option backward.isDefEq.respectTransparency.types false in
/-- The run. -/
theorem run (ρ : Dev nD → PrngReg) :
    θ_run defs (onTc (τ := τ) (main (F := F))) ⟨m, fun _ => 0, ρ⟩ (fun r => (∀ c : Dev nD,
      r.2.mem ((c.tc : Thread nD τ).loc main_v8) = U4 m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine Pipeline.θ_run_regions_kit_dev_sems (pcfgs (F := F)) adm (pdats m) () cellOf_inj emb₁ defs₀ Variants.none lvs lvl m ρ main
    (segs m Variants.none lvs lvl (fun _ => between) () (pdats m) (region0 m) (region1 m) (region2 m))
    (fun c Q => by
      rewrite [main_chain c, Seg.run_eq_chain,
        show (segs m Variants.none lvs lvl (fun _ => between) () (pdats m) (region0 m) (region1 m) (region2 m) c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [segs, Seg.pipes_host, Seg.pipes_region, Seg.pipes_nil]; decide) (fun _ => 0)
    (fun g hg => if_neg hg) (fun _ => BI.emp)
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ between c))
    (Tₙ := fun c => StableHlo.held (c : Thread nD τ) (Pipeline.ucRefs τ sig) (U4 m c))
    (hch := fun c => ⟨.rfl, region0_pre m c, (region0_post m c).trans (region1_pre m c), (region1_post m c).trans (region2_pre m c), (region2_post m c).trans ?_⟩)
    (hinit := ?_) (QY := fun c s => s.mem ((c.tc : Thread nD τ).loc main_v8) = U4 m c main_v8
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h hz => ⟨h, funext fun g => hz g (.inr (regions_no_unscoped g.2))⟩)
  · unfold between
    iintro ⟨Hh, Ho, -, -⟩
    isplitl [Hh]; · iexact Hh
    iexact Ho
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ between c) : sProp 𝕄) := by
      exact bigSep_mono fun c _ => launch_core m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      have hr : ∀ r : Ref sig .tc, ¬ r.isScoped → s'.mem.mem ((c.tc : Thread nD τ).loc r) = U4 m c r := fun r hr =>
        h (Proc.devRef .tc r) (Finset.mem_filter.mpr ⟨StableHlo.devRef_mem_tcRefs r, hr⟩)
      exact ⟨hr main_v8 (by decide),
        (hr main_arg0 (by decide)).trans (U4_arg m c main_arg0 (by decide) (by decide) (by decide) (by decide)),
        (hr main_arg1 (by decide)).trans (U4_arg m c main_arg1 (by decide) (by decide) (by decide) (by decide)),
        (hr main_arg2 (by decide)).trans (U4_arg m c main_arg2 (by decide) (by decide) (by decide) (by decide)),
        (hr main_arg3 (by decide)).trans (U4_arg m c main_arg3 (by decide) (by decide) (by decide) (by decide)),
        (hr main_arg4 (by decide)).trans (U4_arg m c main_arg4 (by decide) (by decide) (by decide) (by decide)),
        (hr main_arg5 (by decide)).trans (U4_arg m c main_arg5 (by decide) (by decide) (by decide) (by decide)),
        (hr main_arg6 (by decide)).trans (U4_arg m c main_arg6 (by decide) (by decide) (by decide) (by decide)),
        (hr main_arg7 (by decide)).trans (U4_arg m c main_arg7 (by decide) (by decide) (by decide) (by decide)),
        (hr main_arg8 (by decide)).trans (U4_arg m c main_arg8 (by decide) (by decide) (by decide) (by decide)),
        (hr main_arg9 (by decide)).trans (U4_arg m c main_arg9 (by decide) (by decide) (by decide) (by decide))⟩
    · iexact HSI

end Cert.KernelIdeal.Run

end
-- ==== Proof.Frames.lean ====
/-
  The frames of the three programs, and the ledger of the one constant the idealization renames.

  Each program runs to completion from any memory with zero counters, leaves its ten arguments as it found them and
  every semaphore counter at zero. For the kernel (at the machine's formats) and for its idealization this is the run of the
  three regions with the result forgotten; the reference is a straight line of host operations on a signature that
  declares no semaphore.
-/
module

public import proofs.«01_k».proof.Defs
public import proofs.«01_k».proof.Proof.IdealRun
public import proofs.«01_k».proof.Proof.KernelRun
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel at the machine's formats leaves its arguments and its counters as they were. -/
theorem frame_kernel : Cert.quiescent_Kernel (hKernel := Cert.Kernel.Gen.facts) := fun m ρ _ =>
  (θ_run (Cert.Kernel.defs (F := Bits)) _ _).mono (fun _ h => ⟨fun c => (h.1 c).2, h.2⟩)
    (Cert.Kernel.Run.run (F := Bits) m ρ)

/-- So does its idealization over the extended reals. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩)
    (Cert.KernelIdeal.Run.run (F := Ideal) m ρ)

/-- So does the reference, which has no semaphore at all. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run m ρ)

/-- The one named constant: `"big"` stands for `⊤`. -/
theorem preserves : Cert.preserves_Kernel_KernelIdeal :=
  IdealRules.named_const.statement Cert.KernelIdeal.κ "big" .f32 0x7149F2CA#32 ⊤ rfl

end Cert.Proof

end
-- ==== Proof.Consts.lean ====
/-
  The float constants of the programs as real numbers, and a few facts about sums of reals among the extended reals.
-/
module

public import Idealize.ShloMosaic.PureOps.Ideal.Laws
public import Idealize.ShloMosaic.Lib.IdealHost

@[expose] public section

noncomputable section

namespace Cert.Consts

open Idealize.ShloMosaic

/-- The least distance a weight divides by (the float nearest 1e-10). -/
def eps : ℝ := 14411519 / 144115188075855872
/-- The threshold on the sum of the weights (the float nearest 1e-3). -/
def tau : ℝ := 8589935 / 8589934592
/-- What is added to a variance (the float nearest 1e-5). -/
def veps : ℝ := 10995116 / 1099511627776

theorem eps_pos : 0 < eps := by norm_num [eps]
theorem veps_pos : 0 < veps := by norm_num [veps]
theorem tau_lt : tau < 1 / 3 := by norm_num [tau]
theorem tau_pos : 0 < tau := by norm_num [tau]

theorem ofBits_eps : Ideal.ofBits .f32 0x2EDBE6FF#32 = (eps : EReal) := by
  simp [Ideal.ofBits, Ideal.ieee, -EReal.coe_mul, eps]; norm_num
theorem ofBits_tau : Ideal.ofBits .f32 0x3A83126F#32 = (tau : EReal) := by
  simp [Ideal.ofBits, Ideal.ieee, -EReal.coe_mul, tau]; norm_num
theorem ofBits_veps : Ideal.ofBits .f32 0x3727C5AC#32 = (veps : EReal) := by
  simp [Ideal.ofBits, Ideal.ieee, -EReal.coe_mul, veps]; norm_num
theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_count : Ideal.ofBits .f32 0x47000000#32 = ((32768 : ℝ) : EReal) := by
  simp [Ideal.ofBits, Ideal.ieee, -EReal.coe_mul]; norm_num
theorem ofBits_inv_count : Ideal.ofBits .f32 0x38000000#32 = ((1 / 32768 : ℝ) : EReal) := by
  simp [Ideal.ofBits, Ideal.ieee, -EReal.coe_mul]; norm_num
theorem ofBits_inf : Ideal.ofBits .f32 0x7F800000#32 = ⊤ := by
  simp [Ideal.ofBits, Ideal.ieee]

/-- A finite sum of reals is a real. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real is a real. -/
theorem div_coe_coe (x y : ℝ) (h : y ≠ 0) : Ideal.div (x : EReal) (y : EReal) = ((x / y : ℝ) : EReal) := by
  rw [Ideal.div_coe h, ← EReal.coe_mul]; congr 1; ring

/-- The greater of two reals is a real. -/
theorem max_coe (x y : ℝ) : max (x : EReal) (y : EReal) = ((max x y : ℝ) : EReal) :=
  (EReal.coe_strictMono.monotone.map_max).symm

end Cert.Consts

end
-- ==== Proof.Rows.lean ====
/-
  One row of the nearest-neighbour search: a target's distances to the 1024 sources.

  `σ` lists the sources in the order of their distance, the lower position first among equals (`IsOrder`). The row of
  interpolation weights is written in two ways: with the minimum taken three times, each time removing every source
  that attains it (`fastRow`), and with only the first of them removed (`slowRow`). The second is always the weights of the
  three nearest sources (`slowRow_eq`). The first has row sum at least one, and where the sum exceeds one by no more
  than the threshold, and either the second, third and fourth distances differ or the third weight exceeds the
  threshold, it is those weights as well (`fastRow_eq`).
-/
module

public import proofs.«01_k».proof.Proof.Consts

@[expose] public section

noncomputable section

namespace Cert.Rows

open Idealize.ShloMosaic Cert.Consts

/-- The order of a row: by value, then by position. -/
structure IsOrder (d : Fin 1024 → ℝ) (σ : Fin 1024 → Fin 1024) : Prop where
  inj : Function.Injective σ
  lt : ∀ i j, i < j → d (σ i) < d (σ j) ∨ (d (σ i) = d (σ j) ∧ σ i < σ j)

namespace IsOrder

variable {d : Fin 1024 → ℝ} {σ : Fin 1024 → Fin 1024} (h : IsOrder d σ)
include h

theorem surj : Function.Surjective σ := Finite.injective_iff_surjective.mp h.inj

theorem le {i j : Fin 1024} (hij : i ≤ j) : d (σ i) ≤ d (σ j) := by
  rcases hij.eq_or_lt with e | e
  · rw [e]
  · rcases h.lt i j e with g | g
    · exact g.le
    · exact g.1.le

end IsOrder

/-- An order of the values of a row is one of any increasing image of it. -/
theorem IsOrder.congr {d d' : Fin 1024 → ℝ} {σ : Fin 1024 → Fin 1024} (h : IsOrder d σ)
    (hlt : ∀ i j, d i < d j → d' i < d' j) (heq : ∀ i j, d i = d j → d' i = d' j) : IsOrder d' σ :=
  ⟨h.inj, fun i j hij => (h.lt i j hij).imp (hlt _ _) fun g => ⟨heq _ _ g.1, g.2⟩⟩

/-- The least of a row. -/
def mn (f : Fin 1024 → EReal) : EReal := Finset.univ.fold min ⊤ f

theorem mn_le (f : Fin 1024 → EReal) (j : Fin 1024) : mn f ≤ f j :=
  (Finset.le_fold_min (c := mn f)).1 le_rfl |>.2 j (Finset.mem_univ j)

theorem le_mn {f : Fin 1024 → EReal} {x : EReal} (h : ∀ j, x ≤ f j) : x ≤ mn f :=
  (Finset.le_fold_min (c := x)).2 ⟨le_top, fun j _ => h j⟩

theorem mn_eq {f : Fin 1024 → EReal} {p : Fin 1024} (h : ∀ j, f p ≤ f j) : mn f = f p :=
  le_antisymm (mn_le f p) (le_mn h)

theorem mn_mem (f : Fin 1024 → EReal) : ∃ p, f p = mn f := by
  obtain ⟨p, hp⟩ := Finite.exists_min f
  exact ⟨p, (mn_eq hp).symm⟩

/-- A weight before normalization: one over the distance, cut off from below; `m` is half the distance less the target's part. -/
def wt (q m : EReal) : EReal := Ideal.div 1 (max (max (((2 : ℝ) : EReal) * m + q) 0) (eps : EReal))

/-- The same among the reals. -/
def rwt (q m : ℝ) : ℝ := 1 / max (max (2 * m + q) 0) eps

theorem rwt_den_pos (q m : ℝ) : 0 < max (max (2 * m + q) 0) eps := lt_of_lt_of_le eps_pos (le_max_right _ _)

theorem rwt_pos (q m : ℝ) : 0 < rwt q m := one_div_pos.2 (rwt_den_pos q m)

theorem rwt_anti (q : ℝ) {m m' : ℝ} (h : m ≤ m') : rwt q m' ≤ rwt q m :=
  one_div_le_one_div_of_le (rwt_den_pos q m) (max_le_max (max_le_max (by linarith) le_rfl) le_rfl)

theorem wt_coe (q m : ℝ) : wt q m = (rwt q m : EReal) := by
  unfold wt rwt
  rw [← EReal.coe_mul, ← EReal.coe_add, ← EReal.coe_zero, max_coe, max_coe, ← EReal.coe_one, div_coe_coe _ _ (rwt_den_pos q m).ne']

theorem wt_top (q : ℝ) : wt q ⊤ = 0 := by
  unfold wt
  rw [EReal.coe_mul_top_of_pos (by norm_num), EReal.top_add_coe, max_eq_left (le_top), max_eq_left le_top]
  simp [Ideal.div]

/-- Weights of values that do not fall, none `⊥`, the first a real: reals that do not grow. -/
theorem wt_reals (q : ℝ) (a : ℝ) (m2 m3 : EReal) (h2 : (a : EReal) ≤ m2) (h3 : m2 ≤ m3) :
    ∃ v2 v3 : ℝ, wt q m2 = v2 ∧ wt q m3 = v3 ∧ v2 ≤ rwt q a ∧ v3 ≤ v2 ∧ 0 ≤ v3 := by
  induction m2 with
  | bot => exact absurd h2 (by simp)
  | top =>
    have : m3 = ⊤ := top_le_iff.1 h3
    subst this
    exact ⟨0, 0, wt_top q, wt_top q, (rwt_pos q a).le, le_rfl, le_rfl⟩
  | coe b =>
    have hb : a ≤ b := EReal.coe_le_coe_iff.1 h2
    induction m3 with
    | bot => exact absurd h3 (by simp)
    | top => exact ⟨rwt q b, 0, wt_coe q b, wt_top q, rwt_anti q hb, (rwt_pos q b).le, le_rfl⟩
    | coe c =>
      exact ⟨rwt q b, rwt q c, wt_coe q b, wt_coe q c, rwt_anti q hb, rwt_anti q (EReal.coe_le_coe_iff.1 h3), (rwt_pos q c).le⟩

/-- The `k`-th normalized weight of the three. -/
def nw (q : EReal) (m1 m2 m3 m : EReal) : EReal := Ideal.div (wt q m) (wt q m1 + wt q m2 + wt q m3)

/-- The row with every source that attains the minimum `m` removed. -/
def cutAll (f : Fin 1024 → EReal) : Fin 1024 → EReal := fun j => if f j = mn f then ⊤ else f j

/-- The weights with the minimum taken three times, every source that attains it removed each time. -/
def fastRow (q : EReal) (f : Fin 1024 → EReal) (j : Fin 1024) : EReal :=
  ((if f j = mn f then nw q (mn f) (mn (cutAll f)) (mn (cutAll (cutAll f))) (mn f) else 0)
    + (if cutAll f j = mn (cutAll f) then nw q (mn f) (mn (cutAll f)) (mn (cutAll (cutAll f))) (mn (cutAll f)) else 0))
    + (if cutAll (cutAll f) j = mn (cutAll (cutAll f)) then nw q (mn f) (mn (cutAll f)) (mn (cutAll (cutAll f))) (mn (cutAll (cutAll f))) else 0)

/-- A source's position as an extended real. -/
def pos (j : Fin 1024) : EReal := ((j.val : ℝ) : EReal)

/-- The first position that attains the minimum. -/
def amin (f : Fin 1024 → EReal) : EReal := mn fun j => if f j = mn f then pos j else ((1024 : ℝ) : EReal)

/-- The row with the source at the first such position removed. -/
def cutOne (f : Fin 1024 → EReal) : Fin 1024 → EReal := fun j => if pos j = amin f then ⊤ else f j

/-- The weights with the minimum taken three times, the first source that attains it removed each time. -/
def slowRow (q : EReal) (f : Fin 1024 → EReal) (j : Fin 1024) : EReal :=
  ((if pos j = amin f then nw q (mn f) (mn (cutOne f)) (mn (cutOne (cutOne f))) (mn f) else 0)
    + (if pos j = amin (cutOne f) then nw q (mn f) (mn (cutOne f)) (mn (cutOne (cutOne f))) (mn (cutOne f)) else 0))
    + (if pos j = amin (cutOne (cutOne f)) then nw q (mn f) (mn (cutOne f)) (mn (cutOne (cutOne f))) (mn (cutOne (cutOne f))) else 0)

/-- The weight of the `k`-th nearest source, among the reals. -/
def rnw (q : ℝ) (d : Fin 1024 → ℝ) (σ : Fin 1024 → Fin 1024) (k : Fin 1024) : ℝ :=
  rwt q (d (σ k)) / (rwt q (d (σ 0)) + rwt q (d (σ 1)) + rwt q (d (σ 2)))

/-- The row of the weights of the three nearest sources. -/
def nearRow (q : ℝ) (d : Fin 1024 → ℝ) (σ : Fin 1024 → Fin 1024) (j : Fin 1024) : ℝ :=
  (if j = σ 0 then rnw q d σ 0 else 0) + (if j = σ 1 then rnw q d σ 1 else 0) + (if j = σ 2 then rnw q d σ 2 else 0)

theorem pos_inj {i j : Fin 1024} : pos i = pos j ↔ i = j := by
  unfold pos
  rw [EReal.coe_eq_coe_iff, Nat.cast_inj, Fin.val_inj]

theorem nw_coe (q a b c m : ℝ) : nw q a b c m = ((rwt q m / (rwt q a + rwt q b + rwt q c) : ℝ) : EReal) := by
  unfold nw
  rw [wt_coe, wt_coe, wt_coe, wt_coe, ← EReal.coe_add, ← EReal.coe_add, div_coe_coe]
  have := rwt_pos q a; have := rwt_pos q b; have := rwt_pos q c
  positivity

/-- Where `p` comes first in the order of a row, the first position of the minimum is `p`. -/
theorem amin_eq {f : Fin 1024 → EReal} {p : Fin 1024} (h : ∀ j, j ≠ p → f p < f j ∨ (f p = f j ∧ p < j)) :
    mn f = f p ∧ amin f = pos p := by
  have hmn : mn f = f p := mn_eq fun j => by
    by_cases e : j = p
    · rw [e]
    · rcases h j e with g | g
      · exact g.le
      · exact g.1.le
  refine ⟨hmn, ?_⟩
  unfold amin
  have hp : (if f p = mn f then pos p else ((1024 : ℝ) : EReal)) = pos p := if_pos hmn.symm
  refine (mn_eq (p := p) fun j => ?_).trans hp
  rw [hp]
  split
  · rename_i e
    by_cases ej : j = p
    · rw [ej]
    · rcases h j ej with g | g
      · rw [e, hmn] at g; exact absurd g (lt_irrefl _)
      · unfold pos; exact EReal.coe_le_coe_iff.2 (Nat.cast_le.2 (Fin.le_def.1 g.2.le))
  · unfold pos
    exact EReal.coe_le_coe_iff.2 (by exact_mod_cast p.isLt.le)

variable {d : Fin 1024 → ℝ} {σ : Fin 1024 → Fin 1024}

/-- The row without the nearest source. -/
def row1 (d : Fin 1024 → ℝ) (σ : Fin 1024 → Fin 1024) (j : Fin 1024) : EReal := if j = σ 0 then ⊤ else (d j : EReal)

/-- The row without the two nearest sources. -/
def row2 (d : Fin 1024 → ℝ) (σ : Fin 1024 → Fin 1024) (j : Fin 1024) : EReal := if j = σ 1 then ⊤ else row1 d σ j

theorem row1_of (h : IsOrder d σ) {k : Fin 1024} (hk : k ≠ 0) : row1 d σ (σ k) = (d (σ k) : EReal) :=
  if_neg fun e => hk (h.inj e)

theorem row2_of (h : IsOrder d σ) {k : Fin 1024} (hk : k ≠ 0) (hk1 : k ≠ 1) : row2 d σ (σ k) = (d (σ k) : EReal) :=
  (if_neg fun e => hk1 (h.inj e)).trans (row1_of h hk)

theorem ne01 : (1 : Fin 1024) ≠ 0 := by decide
theorem ne02 : (2 : Fin 1024) ≠ 0 := by decide
theorem ne12 : (2 : Fin 1024) ≠ 1 := by decide

theorem lead0 (h : IsOrder d σ) (j : Fin 1024) (hj : j ≠ σ 0) :
    (d (σ 0) : EReal) < d j ∨ ((d (σ 0) : EReal) = d j ∧ σ 0 < j) := by
  obtain ⟨k, rfl⟩ := h.surj j
  have hk : 0 < k := Fin.pos_of_ne_zero fun e => hj (by rw [e])
  exact (h.lt 0 k hk).imp EReal.coe_lt_coe_iff.2 fun g => ⟨congrArg _ g.1, g.2⟩

theorem lead1 (h : IsOrder d σ) (j : Fin 1024) (hj : j ≠ σ 1) :
    row1 d σ (σ 1) < row1 d σ j ∨ (row1 d σ (σ 1) = row1 d σ j ∧ σ 1 < j) := by
  obtain ⟨k, rfl⟩ := h.surj j
  rw [row1_of h ne01]
  by_cases e0 : k = 0
  · subst e0; left; unfold row1; rw [if_pos rfl]; exact EReal.coe_lt_top _
  · have hk : 1 < k := by
      have : k ≠ 1 := fun e => hj (by rw [e])
      rw [Fin.lt_def]; simp only [Ne, Fin.ext_iff] at this e0
      have : (1 : Fin 1024).val = 1 := rfl
      have : (0 : Fin 1024).val = 0 := rfl
      omega
    rw [row1_of h e0]
    exact (h.lt 1 k hk).imp EReal.coe_lt_coe_iff.2 fun g => ⟨congrArg _ g.1, g.2⟩

theorem lead2 (h : IsOrder d σ) (j : Fin 1024) (hj : j ≠ σ 2) :
    row2 d σ (σ 2) < row2 d σ j ∨ (row2 d σ (σ 2) = row2 d σ j ∧ σ 2 < j) := by
  obtain ⟨k, rfl⟩ := h.surj j
  rw [row2_of h ne02 ne12]
  by_cases e0 : k = 0
  · subst e0; left; unfold row2 row1; rw [if_pos rfl, ite_self]; exact EReal.coe_lt_top _
  · by_cases e1 : k = 1
    · subst e1; left; unfold row2; rw [if_pos rfl]; exact EReal.coe_lt_top _
    · have hk : 2 < k := by
        have : k ≠ 2 := fun e => hj (by rw [e])
        rw [Fin.lt_def]; simp only [Ne, Fin.ext_iff] at this e0 e1
        have : (1 : Fin 1024).val = 1 := rfl
        have : (2 : Fin 1024).val = 2 := rfl
        have : (0 : Fin 1024).val = 0 := rfl
        omega
      rw [row2_of h e0 e1]
      exact (h.lt 2 k hk).imp EReal.coe_lt_coe_iff.2 fun g => ⟨congrArg _ g.1, g.2⟩

/-- Removing the first position always gives the weights of the three nearest sources. -/
theorem slowRow_eq (h : IsOrder d σ) (q : ℝ) (j : Fin 1024) :
    slowRow q (fun j => (d j : EReal)) j = (nearRow q d σ j : EReal) := by
  have a0 := amin_eq (f := fun j => (d j : EReal)) (lead0 h)
  have c0 : cutOne (fun j => (d j : EReal)) = row1 d σ := by
    funext j; unfold cutOne row1; rw [a0.2]; simp only [pos_inj]
  have a1 := amin_eq (lead1 h)
  have c1 : cutOne (row1 d σ) = row2 d σ := by
    funext j; unfold cutOne row2; rw [a1.2]; simp only [pos_inj]
  have a2 := amin_eq (lead2 h)
  unfold slowRow nearRow
  rw [c0, c1, a0.2, a1.2, a2.2, a0.1, a1.1, a2.1, row1_of h ne01, row2_of h ne02 ne12, nw_coe, nw_coe, nw_coe]
  simp only [pos_inj, EReal.coe_add, apply_ite Real.toEReal, EReal.coe_zero]
  rfl

/-- A row whose least value is attained once: where it is, and the row without it. -/
theorem single {f : Fin 1024 → EReal} {p : Fin 1024} (h : ∀ j, j ≠ p → f p < f j) :
    (∀ j, f j = mn f ↔ j = p) ∧ ∀ j, cutAll f j = if j = p then ⊤ else f j := by
  have hm : mn f = f p := (amin_eq fun j hj => Or.inl (h j hj)).1
  have hi : ∀ j, f j = mn f ↔ j = p := fun j => by
    rw [hm]
    exact ⟨fun e => by_contra fun hj => absurd (h j hj) (by rw [e]; exact lt_irrefl _), fun e => by rw [e]⟩
  exact ⟨hi, fun j => by unfold cutAll; simp only [hi j]⟩

/-- A weight put wherever a condition holds sums to at least the weight, … -/
theorem sum_ge_one {P : Fin 1024 → Prop} [DecidablePred P] {w : ℝ} (hw : 0 ≤ w) {p : Fin 1024} (hp : P p) :
    w ≤ ∑ j, if P j then w else 0 := by
  have := Finset.single_le_sum (f := fun j => if P j then w else 0) (s := Finset.univ)
    (fun j _ => by split <;> simp [hw]) (Finset.mem_univ p)
  simpa [hp] using this

/-- … and, where it holds twice, to at least twice the weight. -/
theorem sum_ge_two {P : Fin 1024 → Prop} [DecidablePred P] {w : ℝ} (hw : 0 ≤ w) {p p' : Fin 1024} (hp : P p) (hp' : P p')
    (hne : p ≠ p') : 2 * w ≤ ∑ j, if P j then w else 0 := by
  have := Finset.sum_le_univ_sum_of_nonneg (f := fun j => if P j then w else 0) (s := {p, p'})
    (fun j => by split <;> simp [hw])
  rw [Finset.sum_pair hne, if_pos hp, if_pos hp'] at this
  linarith

theorem le_cutAll (f : Fin 1024 → EReal) : mn f ≤ mn (cutAll f) :=
  le_mn fun j => by
    unfold cutAll; split
    · exact le_top
    · exact mn_le f j

/-- Removing all attaining sources: the weights are reals whose sum is at least one, and, where the sum is at most `1 + tau`
and either no tie follows or the third weight exceeds `tau`, the weights of the three nearest sources. -/
theorem fastRow_eq (h : IsOrder d σ) (q : ℝ) : ∃ r : Fin 1024 → ℝ,
    (∀ j, fastRow q (fun j => (d j : EReal)) j = (r j : EReal)) ∧ 1 ≤ ∑ j, r j ∧
      (∑ j, r j ≤ 1 + tau → ((d (σ 1) < d (σ 2) ∧ d (σ 2) < d (σ 3)) ∨ tau < rnw q d σ 2) → ∀ j, r j = nearRow q d σ j) := by
  classical
  set f : Fin 1024 → EReal := fun j => (d j : EReal) with hf
  have e1 : mn f = (d (σ 0) : EReal) := (amin_eq (lead0 h)).1
  obtain ⟨v2, v3, hv2, hv3, h21, h32, h3⟩ := wt_reals q (d (σ 0)) (mn (cutAll f)) (mn (cutAll (cutAll f)))
    (e1 ▸ le_cutAll f) (le_cutAll _)
  set v1 := rwt q (d (σ 0)) with hv1
  have p1 : 0 < v1 := rwt_pos _ _
  have hs : 0 < v1 + v2 + v3 := by linarith
  have hw1 : wt q (mn f) = (v1 : EReal) := by rw [e1, wt_coe]
  have hn : ∀ (m : EReal) (v : ℝ), wt q m = v →
      nw q (mn f) (mn (cutAll f)) (mn (cutAll (cutAll f))) m = ((v / (v1 + v2 + v3) : ℝ) : EReal) := fun m v hm => by
    unfold nw; rw [hm, hw1, hv2, hv3, ← EReal.coe_add, ← EReal.coe_add, div_coe_coe _ _ hs.ne']
  set w1 := v1 / (v1 + v2 + v3) with hw1'
  set w2 := v2 / (v1 + v2 + v3) with hw2'
  set w3 := v3 / (v1 + v2 + v3) with hw3'
  have w1n : 0 ≤ w1 := div_nonneg p1.le hs.le
  have w2n : 0 ≤ w2 := div_nonneg (h3.trans h32) hs.le
  have w3n : 0 ≤ w3 := div_nonneg h3 hs.le
  have wsum : w1 + w2 + w3 = 1 := by rw [hw1', hw2', hw3', ← add_div, ← add_div, div_self hs.ne']
  have w1t : 1 / 3 ≤ w1 := by rw [hw1', div_le_div_iff₀ (by norm_num) hs]; linarith
  refine ⟨fun j => (if f j = mn f then w1 else 0) + (if cutAll f j = mn (cutAll f) then w2 else 0)
    + (if cutAll (cutAll f) j = mn (cutAll (cutAll f)) then w3 else 0), fun j => ?_, ?_, ?_⟩
  · unfold fastRow
    rw [hn _ _ hw1, hn _ _ hv2, hn _ _ hv3, ← hw1', ← hw2', ← hw3']
    simp only [EReal.coe_add, apply_ite Real.toEReal, EReal.coe_zero]
  all_goals rw [Finset.sum_add_distrib, Finset.sum_add_distrib]
  all_goals
    obtain ⟨a1, ha1⟩ := mn_mem f
    obtain ⟨a2, ha2⟩ := mn_mem (cutAll f)
    obtain ⟨a3, ha3⟩ := mn_mem (cutAll (cutAll f))
    have s1 := sum_ge_one (P := fun j => f j = mn f) w1n ha1
    have s2 := sum_ge_one (P := fun j => cutAll f j = mn (cutAll f)) w2n ha2
    have s3 := sum_ge_one (P := fun j => cutAll (cutAll f) j = mn (cutAll (cutAll f))) w3n ha3
  · linarith
  intro hle htie
  have t1 : d (σ 0) < d (σ 1) := by
    refine lt_of_le_of_ne (h.le (by decide)) fun e => ?_
    have := sum_ge_two (P := fun j => f j = mn f) w1n (p := σ 0) (p' := σ 1) e1.symm
      (by rw [e1]; exact congrArg Real.toEReal e.symm) (fun e' => ne01 (h.inj e'.symm))
    have := tau_lt
    linarith
  have q1 : ∀ j, j ≠ σ 0 → f (σ 0) < f j := fun j hj => by
    obtain ⟨k, rfl⟩ := h.surj j
    have hk : 1 ≤ k := Fin.one_le_of_ne_zero fun e => hj (by rw [e])
    exact EReal.coe_lt_coe_iff.2 (t1.trans_le (h.le hk))
  obtain ⟨i1, c1⟩ := single q1
  have c1' : cutAll f = row1 d σ := funext c1
  have e2 : mn (row1 d σ) = (d (σ 1) : EReal) := (amin_eq (lead1 h)).1.trans (row1_of h ne01)
  rw [c1', e2, wt_coe] at hv2
  have hv2' : rwt q (d (σ 1)) = v2 := EReal.coe_eq_coe_iff.1 hv2
  have t2 : d (σ 1) < d (σ 2) := by
    refine lt_of_le_of_ne (h.le (by decide)) fun e => ?_
    have ht : tau < rnw q d σ 2 := htie.resolve_left fun g => absurd g.1 (by rw [e]; exact lt_irrefl _)
    have := sum_ge_two (P := fun j => cutAll f j = mn (cutAll f)) w2n (p := σ 1) (p' := σ 2)
      (by rw [c1', e2]; exact row1_of h ne01) (by rw [c1', e2, e]; exact row1_of h ne02) (fun e' => ne12 (h.inj e'.symm))
    have hw : rnw q d σ 2 ≤ w2 := by
      unfold rnw
      rw [← e, hv2', ← hv1, hw2']
      exact div_le_div_of_nonneg_left (h3.trans h32) hs (by linarith)
    linarith
  have q2 : ∀ j, j ≠ σ 1 → row1 d σ (σ 1) < row1 d σ j := fun j hj => by
    rcases lead1 h j hj with g | g
    · exact g
    · exfalso
      obtain ⟨k, rfl⟩ := h.surj j
      by_cases e0 : k = 0
      · subst e0; rw [row1_of h ne01] at g; unfold row1 at g; rw [if_pos rfl] at g; exact EReal.coe_ne_top _ g.1
      · rw [row1_of h ne01, row1_of h e0, EReal.coe_eq_coe_iff] at g
        have hk : 2 ≤ k := by
          have : k ≠ 1 := fun e => hj (by rw [e])
          rw [Fin.le_def]; simp only [Ne, Fin.ext_iff] at this e0
          have : (1 : Fin 1024).val = 1 := rfl
          have : (2 : Fin 1024).val = 2 := rfl
          have : (0 : Fin 1024).val = 0 := rfl
          omega
        exact absurd g.1 (t2.trans_le (h.le hk)).ne
  obtain ⟨i2, c2⟩ := single q2
  have c2' : cutAll (row1 d σ) = row2 d σ := funext c2
  have e3 : mn (row2 d σ) = (d (σ 2) : EReal) := (amin_eq (lead2 h)).1.trans (row2_of h ne02 ne12)
  rw [c1', c2', e3, wt_coe] at hv3
  have hv3' : rwt q (d (σ 2)) = v3 := EReal.coe_eq_coe_iff.1 hv3
  have r0 : w1 = rnw q d σ 0 := by unfold rnw; rw [hv2', hv3', ← hv1]
  have r1 : w2 = rnw q d σ 1 := by unfold rnw; rw [hv2', hv3', ← hv1]
  have r2 : w3 = rnw q d σ 2 := by unfold rnw; rw [hv2', hv3', ← hv1]
  have t3 : d (σ 2) < d (σ 3) := by
    refine lt_of_le_of_ne (h.le (by decide)) fun e => ?_
    have ht : tau < rnw q d σ 2 := htie.resolve_left fun g => absurd g.2 (by rw [e]; exact lt_irrefl _)
    have := sum_ge_two (P := fun j => cutAll (cutAll f) j = mn (cutAll (cutAll f))) w3n (p := σ 2) (p' := σ 3)
      (by rw [c1', c2', e3]; exact row2_of h ne02 ne12)
      (by rw [c1', c2', e3, e]; exact row2_of h (by decide) (by decide)) (fun e' => absurd (h.inj e') (by decide))
    linarith
  have q3 : ∀ j, j ≠ σ 2 → row2 d σ (σ 2) < row2 d σ j := fun j hj => by
    rcases lead2 h j hj with g | g
    · exact g
    · exfalso
      obtain ⟨k, rfl⟩ := h.surj j
      rw [row2_of h ne02 ne12] at g
      by_cases e0 : k = 0
      · subst e0; unfold row2 row1 at g; rw [if_pos rfl, ite_self] at g; exact EReal.coe_ne_top _ g.1
      · by_cases e1 : k = 1
        · subst e1; unfold row2 at g; rw [if_pos rfl] at g; exact EReal.coe_ne_top _ g.1
        · rw [row2_of h e0 e1, EReal.coe_eq_coe_iff] at g
          have hk : 3 ≤ k := by
            have : k ≠ 2 := fun e => hj (by rw [e])
            rw [Fin.le_def]; simp only [Ne, Fin.ext_iff] at this e0 e1
            have : (1 : Fin 1024).val = 1 := rfl
            have : (2 : Fin 1024).val = 2 := rfl
            have : (3 : Fin 1024).val = 3 := rfl
            have : (0 : Fin 1024).val = 0 := rfl
            omega
          exact absurd g.1 (t3.trans_le (h.le hk)).ne
  have i3 := (single q3).1
  intro j
  unfold nearRow
  rw [c1', c2']
  simp only [i1, i2, i3, r0, r1, r2]

end Cert.Rows

end
-- ==== Proof.ReadBase.lean ====
/-
  Operations the three calls share, read at an index: a column broadcast along rows, a row's minimum and sum, a choice on an
  equality, and the two columns of the statistics.
-/
module

public import proofs.«01_k».proof.Proof.Gen.KernelIdeal.Skeleton
public import proofs.«01_k».proof.Proof.Rows
public import Idealize.ShloMosaic.Lib.ValueIdx
public import Idealize.ShloMosaic.Lib.ValueIdxRank1
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value
public import Idealize.ShloMosaic.PureOps.Ideal.Laws
public import Idealize.ShloMosaic.PureOps.IdealRules

@[expose] public section

set_option maxRecDepth 16384

noncomputable section

namespace Cert.ReadBase

open Cert.KernelIdeal Cert.KernelIdeal.Gen Cert.Rows Cert.Consts
open Idealize.ShloMosaic Idealize.ShloMosaic.ValueIdx

/-- The one column broadcast over a row's positions. -/
theorem col_apply {α : Type} {a b : ℕ} (v : (⟨2, ![a, 1]⟩ : Shape).Idx → α) (h : (⟨2, ![a, 1]⟩ : Shape).Broadcasts ⟨2, ![a, b]⟩)
    (n : Fin a) (j : Fin b) : broadcastTo ⟨2, ![a, b]⟩ v h (ix2 n j) = v (ix2 n (0 : Fin 1)) := by
  refine broadcastTo_apply v h (ix2 n j) (ix2 n (0 : Fin 1)) fun ax => ?_
  match ax with
  | ⟨0, _⟩ =>
    show n.val = if a = 1 then 0 else n.val
    split
    · have := n.isLt; omega
    · rfl
  | ⟨1, _⟩ => rfl

/-- A row's minimum, kept as a column. -/
theorem min_col (x : FVec Ideal S512x1024 .f32) (hφ : FKind.Formats .f32) (hacc : (0x7F800000#32 : BitVec 32) = FKind.minimumf.neutral .f32 hφ)
    (h : S512x1024.Reduces [1] S512) (hc : S512.ShapeCasts S512x1) (n : Fin 512) :
    shapeCast S512x1 (multiReduction .minimumf [1] S512 x 0x7F800000#32 h hφ hacc) hc (ix2 n (0 : Fin 1)) = mn fun j => x (ix2 n j) := by
  refine (shapeCast_a_a1_apply _ hc n (0 : Fin 1)).trans ?_
  rw [multiReduction_minimumf_eq_fold]
  refine (h.fold_filter_drop_single _ _ x _).trans ?_
  have e : (FloatOps.ofBits (F := Ideal) .f32 0x7F800000#32) = ⊤ := ofBits_inf
  rw [e]
  refine congrArg (Finset.fold min ⊤ · Finset.univ) (funext fun j => ?_)
  exact congrArg x (by funext ax; match ax with | ⟨0, _⟩ => rfl | ⟨1, _⟩ => rfl)

/-- A row's sum, kept as a column. -/
theorem sum_col {a b : ℕ} (x : FVec Ideal ⟨2, ![a, b]⟩ .f32) (hφ : FKind.Formats .f32) (hacc : (0x00000000#32 : BitVec 32) = FKind.add.neutral .f32 hφ)
    (h : (⟨2, ![a, b]⟩ : Shape).Reduces [1] ⟨1, ![a]⟩) (hc : (⟨1, ![a]⟩ : Shape).ShapeCasts ⟨2, ![a, 1]⟩) (n : Fin a) :
    shapeCast ⟨2, ![a, 1]⟩ (multiReduction .add [1] ⟨1, ![a]⟩ x 0x00000000#32 h hφ hacc) hc (ix2 n (0 : Fin 1)) = ∑ j : Fin b, x (ix2 n j) := by
  refine (shapeCast_a_a1_apply _ hc n (0 : Fin 1)).trans ((Ideal.multiReduction_add_single x _ h hφ hacc _).trans ?_)
  exact Finset.sum_congr rfl fun j _ => congrArg x (by funext ax; match ax with | ⟨0, _⟩ => rfl | ⟨1, _⟩ => rfl)

/-- A choice on an equality. -/
theorem sel_eq (x y a b : EReal) : Scalar.select (FloatOps.cmpf (F := Ideal) (φ := .f32) .oeq x y) a b = if x = y then a else b := by
  show Scalar.select (BitVec.ofBool (decide (x = y))) a b = _
  by_cases h : x = y
  · rw [if_pos h, decide_eq_true h]; rfl
  · rw [if_neg h, decide_eq_false h]; rfl

/-- The named constant is `+∞`. -/
theorem big_top : Named.named (F := Ideal) κ "big" (φ := .f32) 0x7149F2CA#32 = ⊤ :=
  IdealRules.named_const.ideal_named_scalar κ "big" (φ := .f32) 0x7149F2CA#32 ⊤ rfl

/-- The first column of two laid side by side, -/
theorem concat_0 (x y : FVec Ideal S256x1 .f32) (h : Shape.Concatenates [S256x1, S256x1] S256x2 1) (o : Fin 256) :
    concatenate S256x2 1 [⟨S256x1, x⟩, ⟨S256x1, y⟩] h (ix2 o (0 : Fin 2)) = x (ix2 o (0 : Fin 1)) :=
  concatenate_pair_apply_left (t := S256x2) 1 x y h (ix2 o (0 : Fin 2)) rfl (ix2 o (0 : Fin 1)) (by
    intro b; match b with | ⟨0, _⟩ => rfl | ⟨1, _⟩ => rfl)
/-- and the second. -/
theorem concat_1 (x y : FVec Ideal S256x1 .f32) (h : Shape.Concatenates [S256x1, S256x1] S256x2 1) (o : Fin 256) :
    concatenate S256x2 1 [⟨S256x1, x⟩, ⟨S256x1, y⟩] h (ix2 o (1 : Fin 2)) = y (ix2 o (0 : Fin 1)) :=
  concatenate_pair_apply_right (t := S256x2) 1 x y h (ix2 o (1 : Fin 2)) rfl rfl (ix2 o (0 : Fin 1)) (by
    intro b hb; match b with | ⟨0, _⟩ => rfl | ⟨1, _⟩ => exact absurd rfl hb) rfl

/-- A one-axis contraction onto zero, read at an index, with each factor named by the contracted coordinate. -/
theorem mm {sl sr so : Shape} {φ₁ φ₂ : FTy} (D : DotDims sl sr so) (prec : Option ContractPrecision) (n : ℕ) (hr : D.contr.rank = 1)
    (hs : D.contr.size ⟨0, by omega⟩ = n) (lhs : FVec Ideal sl φ₁) (rhs : FVec Ideal sr φ₂) (j : so.Idx) (L : Fin n → sl.Idx) (R : Fin n → sr.Idx)
    (hL : ∀ k, D.lhsIdx j ((contrEquiv1 D n hr hs).symm k) = L k) (hR : ∀ k, D.rhsIdx j ((contrEquiv1 D n hr hs).symm k) = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  exact Finset.sum_congr rfl fun k _ => by rw [hL, hR]

end Cert.ReadBase

end
-- ==== Proof.ReadB.lean ====
/-
  The second and third calls' values read at an index: the first layer's statistics turned into a factor and a shift, the
  layer rectified, the product of the second layer, and the statistics' two columns.
-/
module

public import proofs.«01_k».proof.Proof.ReadBase

@[expose] public section

set_option maxRecDepth 16384

noncomputable section

namespace Cert.ReadB

open Cert.KernelIdeal Cert.KernelIdeal.Gen Cert.Consts Cert.ReadBase
open Idealize.ShloMosaic Idealize.ShloMosaic.ValueIdx

/-- The mean from a sum, -/
def mean (s : EReal) : EReal := s * ((1 / 32768 : ℝ) : EReal)
/-- the factor a channel is scaled by, from its sum, its sum of squares and its gain, -/
def fac (s s2 g : EReal) : EReal := g * Ideal.rsqrt ((s2 * ((1 / 32768 : ℝ) : EReal) - mean s * mean s) + (veps : EReal))
/-- and the channel's value scaled, shifted and rectified. -/
def act (s s2 g b y : EReal) : EReal := max (y * fac s s2 g + (b - mean s * fac s s2 g)) 0

/-- The mean's column as the payloads spell it, -/
def meanV (st : Vec Ideal S256x2 .f32) : FVec Ideal S256x1 .f32 :=
  mulf (extractStridedSlice S256x1 ![0, 0] (shapeCast S256x2 st shapeCasts_S256x2_S256x2) slices_S256x2_o0_0_S256x1)
    (broadcast S256x1 (Scalar.ofBits (F := Ideal) .f32 0x38000000#32))
/-- the factor's, -/
def facV (st : Vec Ideal S256x2 .f32) (g : Vec Ideal S256x1 .f32) : FVec Ideal S256x1 .f32 :=
  mulf (shapeCast S256x1 g shapeCasts_S256x1_S256x1)
    (rsqrt (addf (subf (mulf (extractStridedSlice S256x1 ![0, 1] (shapeCast S256x2 st shapeCasts_S256x2_S256x2) slices_S256x2_o0_1_S256x1)
      (broadcast S256x1 (Scalar.ofBits (F := Ideal) .f32 0x38000000#32))) (mulf (meanV st) (meanV st)))
      (broadcast S256x1 (Scalar.ofBits (F := Ideal) .f32 0x3727C5AC#32))))
/-- the shift's. -/
def shV (st : Vec Ideal S256x2 .f32) (g b : Vec Ideal S256x1 .f32) : FVec Ideal S256x1 .f32 :=
  subf (shapeCast S256x1 b shapeCasts_S256x1_S256x1) (mulf (meanV st) (facV st g))

theorem ec : Scalar.ofBits (F := Ideal) .f32 0x38000000#32 = ((1 / 32768 : ℝ) : EReal) := ofBits_inv_count
theorem ev : Scalar.ofBits (F := Ideal) .f32 0x3727C5AC#32 = (veps : EReal) := ofBits_veps
theorem e0 : Scalar.ofBits (F := Ideal) .f32 0x00000000#32 = (0 : EReal) := ofBits_zero

theorem meanV_apply (st : Vec Ideal S256x2 .f32) (o : Fin 256) : meanV st (ix2 o (0 : Fin 1)) = mean (st (ix2 o (0 : Fin 2))) := by
  unfold meanV mean
  rw [mulf_apply, broadcast_apply, ec, shapeCast_self]
  exact congrArg (· * _) (slice2_axis1_apply 0 st _ o (0 : Fin 1) (0 : Fin 2) rfl)

theorem facV_apply (st : Vec Ideal S256x2 .f32) (g : Vec Ideal S256x1 .f32) (o : Fin 256) :
    facV st g (ix2 o (0 : Fin 1)) = fac (st (ix2 o (0 : Fin 2))) (st (ix2 o (1 : Fin 2))) (g (ix2 o (0 : Fin 1))) := by
  unfold facV fac
  rw [mulf_apply, shapeCast_self, shapeCast_self]
  refine congrArg (fun x => g (ix2 o (0 : Fin 1)) * Ideal.rsqrt x) ?_
  rw [addf_apply, subf_apply, mulf_apply, mulf_apply, broadcast_apply, broadcast_apply, ec, ev, meanV_apply]
  exact congrArg (fun x => x * ((1 / 32768 : ℝ) : EReal) - _ + _) (slice2_axis1_apply 1 st _ o (0 : Fin 1) (1 : Fin 2) rfl)

theorem shV_apply (st : Vec Ideal S256x2 .f32) (g b : Vec Ideal S256x1 .f32) (o : Fin 256) :
    shV st g b (ix2 o (0 : Fin 1)) = b (ix2 o (0 : Fin 1))
      - mean (st (ix2 o (0 : Fin 2))) * fac (st (ix2 o (0 : Fin 2))) (st (ix2 o (1 : Fin 2))) (g (ix2 o (0 : Fin 1))) := by
  unfold shV
  rw [subf_apply, mulf_apply, meanV_apply, facV_apply, shapeCast_self]

/-- The second layer: the product with the rectified first layer. -/
theorem pay3_apply (st : Vec Ideal S256x2 .f32) (g b : Vec Ideal S256x1 .f32) (y : Vec Ideal S1x256x1024 .bf16) (w : Vec Ideal S256x256 .f32)
    (o : Fin 256) (n : Fin 1024) :
    k1_pay3 (F := Ideal) st g b y w (ix2 o n)
      = ∑ c : Fin 256, w (ix2 o c) * act (st (ix2 c (0 : Fin 2))) (st (ix2 c (1 : Fin 2))) (g (ix2 c (0 : Fin 1))) (b (ix2 c (0 : Fin 1))) (y (ix3 (0 : Fin 1) c n)) := by
  have e : k1_pay3 (F := Ideal) st g b y w
      = FloatOps.matmul (DotDims.plain 256 256 1024) none (truncf .bf16 w bitsLt_bf16_f32)
          (truncf .bf16 (maximumf (addf (mulf (extf .f32 (shapeCast S256x1024 y shapeCasts_S1x256x1024_S256x1024) bitsLt_bf16_f32)
            (broadcastTo S256x1024 (facV st g) broadcasts_S256x1_S256x1024)) (broadcastTo S256x1024 (shV st g b) broadcasts_S256x1_S256x1024))
            (broadcast S256x1024 (Scalar.ofBits (F := Ideal) .f32 0x00000000#32))) bitsLt_bf16_f32)
          (constant S256x1024 .f32 0x00000000#32) := rfl
  rw [e]
  refine (Ideal.matmul_plain_apply (M := 256) (K := 256) (N := 1024) none _ _ _ o n).trans ?_
  rw [constant_apply, ofBits_zero, zero_add]
  refine Finset.sum_congr rfl fun c _ => ?_
  rw [truncf_apply, truncf_apply]
  refine congrArg (w (ix2 o c) * ·) ?_
  rw [maximumf_apply, addf_apply, mulf_apply, extf_apply, col_apply, col_apply, facV_apply, shV_apply, broadcast_apply, e0]
  exact congrArg (fun x => max (x * _ + _) 0) (shapeCast_1ab_ab_apply y _ c n)

theorem pay4_apply (st : Vec Ideal S256x2 .f32) (g b : Vec Ideal S256x1 .f32) (y : Vec Ideal S1x256x1024 .bf16) (w : Vec Ideal S256x256 .f32)
    (o : Fin 256) (n : Fin 1024) :
    k1_pay4 (F := Ideal) st g b y w (ix3 (0 : Fin 1) o n) = k1_pay3 st g b y w (ix2 o n) := by
  unfold k1_pay4
  exact (shapeCast_ab_1ab_apply _ _ (0 : Fin 1) o n)

theorem pay2_sum (y : FVec Ideal S256x1024 .f32) (st : Vec Ideal S256x2 .f32) (o : Fin 256) :
    k1_pay2 (F := Ideal) y st (ix2 o (0 : Fin 2)) = st (ix2 o (0 : Fin 2)) + ∑ n : Fin 1024, y (ix2 o n) := by
  unfold k1_pay2
  rw [addf_apply, shapeCast_self, concat_0]
  exact congrArg (_ + ·) (sum_col _ _ _ _ _ o)

theorem pay2_sq (y : FVec Ideal S256x1024 .f32) (st : Vec Ideal S256x2 .f32) (o : Fin 256) :
    k1_pay2 (F := Ideal) y st (ix2 o (1 : Fin 2)) = st (ix2 o (1 : Fin 2)) + ∑ n : Fin 1024, y (ix2 o n) * y (ix2 o n) := by
  unfold k1_pay2
  rw [addf_apply, shapeCast_self, concat_1]
  exact congrArg (_ + ·) (sum_col _ _ _ _ _ o)

theorem pay1_apply (i : S256x2.Idx) : k1_pay1 (F := Ideal) i = 0 := e0

/-- A column raised to a block and broadcast over it. -/
theorem lift_apply (v : FVec Ideal S256x1 .f32) (o : Fin 256) (n : Fin 1024) :
    broadcastTo S1x256x1024 (shapeCast S1x256x1 v shapeCasts_S256x1_S1x256x1) broadcasts_S1x256x1_S1x256x1024 (ix3 (0 : Fin 1) o n)
      = v (ix2 o (0 : Fin 1)) := by
  refine (broadcastTo_apply _ _ (ix3 (0 : Fin 1) o n) (ix3 (0 : Fin 1) o (0 : Fin 1)) fun ax => ?_).trans ?_
  · match ax with
    | ⟨0, _⟩ => rfl
    | ⟨1, _⟩ => rfl
    | ⟨2, _⟩ => rfl
  · exact shapeCast_ab_1ab_apply v _ (0 : Fin 1) o (0 : Fin 1)

/-- The third call's block. -/
theorem out_apply (st : Vec Ideal S256x2 .f32) (g b : Vec Ideal S256x1 .f32) (y : Vec Ideal S1x256x1024 .bf16) (o : Fin 256) (n : Fin 1024) :
    k2_pay1 (F := Ideal) st g b y (ix3 (0 : Fin 1) o n)
      = act (st (ix2 o (0 : Fin 2))) (st (ix2 o (1 : Fin 2))) (g (ix2 o (0 : Fin 1))) (b (ix2 o (0 : Fin 1))) (y (ix3 (0 : Fin 1) o n)) := by
  have e : k2_pay1 (F := Ideal) st g b y
      = maximumf (addf (mulf (extf .f32 (shapeCast S1x256x1024 y shapeCasts_S1x256x1024_S1x256x1024) bitsLt_bf16_f32)
            (broadcastTo S1x256x1024 (shapeCast S1x256x1 (facV st g) shapeCasts_S256x1_S1x256x1) broadcasts_S1x256x1_S1x256x1024))
            (broadcastTo S1x256x1024 (shapeCast S1x256x1 (shV st g b) shapeCasts_S256x1_S1x256x1) broadcasts_S1x256x1_S1x256x1024))
            (broadcast S1x256x1024 (Scalar.ofBits (F := Ideal) .f32 0x00000000#32)) := rfl
  rw [e, maximumf_apply, addf_apply, mulf_apply, extf_apply, lift_apply, lift_apply, facV_apply, shV_apply, broadcast_apply, e0, shapeCast_self]
  rfl

end Cert.ReadB

end
-- ==== Proof.RegC.lean ====
/-
  The third call's array: every element is the second layer's, scaled, shifted and rectified by its channel's statistics.
-/
module

public import proofs.«01_k».proof.Proof.IdealRun
public import proofs.«01_k».proof.Proof.ReadB
public import Idealize.ShloMosaic.Lib.Pipeline.ValueKit

@[expose] public section

set_option maxRecDepth 16384

noncomputable section

namespace Cert.RegC

open Cert.KernelIdeal Cert.KernelIdeal.Gen Cert.Consts Cert.ReadBase Cert.ReadB
open Idealize
open Idealize.ShloMosaic hiding ix1 ix2 ix3 ix4 ix5 eq_ix1 eq_ix2 eq_ix3
open Idealize.ShloMosaic.ValueIdx
open Idealize.ShloMosaic.TcCoe Idealize.ShloMosaic.Tactic
open Idealize.ShloMosaic.Pipeline (Dat Cfg Window)

variable (W : Dev nD → Valuation τ sig (Elt Ideal))

/-- The result, element by element. -/
def out (c : Dev nD) : S8x256x4096.Idx → EReal := fun i =>
  act (W c main_v7_1 (ix2 (i 1) (0 : Fin 2))) (W c main_v7_1 (ix2 (i 1) (1 : Fin 2))) (W c main_v4 (ix2 (i 1) (0 : Fin 1)))
    (W c main_v5 (ix2 (i 1) (0 : Fin 1))) (W c main_v7_0 i)

theorem idx0 : ∀ t : Fin cfg2.N, win2_0.index t 0 = t.val / 4 ∧ win2_0.index t 1 = 0 ∧ win2_0.index t 2 = t.val % 4 := by decide +kernel
theorem idx1 : ∀ t : Fin cfg2.N, win2_1.index t 0 = 0 ∧ win2_1.index t 1 = 0 := by decide +kernel
theorem idx2 : ∀ t : Fin cfg2.N, win2_2.index t 0 = 0 ∧ win2_2.index t 1 = 0 := by decide +kernel
theorem idx3 : ∀ t : Fin cfg2.N, win2_3.index t 0 = 0 ∧ win2_3.index t 1 = 0 := by decide +kernel
theorem idx4 : ∀ t : Fin cfg2.N, win2_4.index t 0 = t.val / 4 ∧ win2_4.index t 1 = 0 ∧ win2_4.index t 2 = t.val % 4 := by decide +kernel

theorem blk1 (c : Dev nD) (t : Fin cfg2.N) (o : Fin 256) (k : Fin 2) : PassC.blk W c 1 t (ix2 o k) = W c main_v7_1 (ix2 o k) := by
  obtain ⟨h0, h1⟩ := idx1 t
  blk_ext [PassC.blk, h0, h1]

theorem blk2 (c : Dev nD) (t : Fin cfg2.N) (o : Fin 256) : PassC.blk W c 2 t (ix2 o (0 : Fin 1)) = W c main_v4 (ix2 o (0 : Fin 1)) := by
  obtain ⟨h0, h1⟩ := idx2 t
  blk_ext [PassC.blk, h0, h1]

theorem blk3 (c : Dev nD) (t : Fin cfg2.N) (o : Fin 256) : PassC.blk W c 3 t (ix2 o (0 : Fin 1)) = W c main_v5 (ix2 o (0 : Fin 1)) := by
  obtain ⟨h0, h1⟩ := idx3 t
  blk_ext [PassC.blk, h0, h1]

theorem blk0 (c : Dev nD) (t : Fin cfg2.N) (o : Fin 256) (n : Fin 1024) :
    PassC.blk W c 0 t (ix3 (0 : Fin 1) o n) = W c main_v7_0 ((win2_4.blk t).view.emb (ix3 (0 : Fin 1) o n)) := by
  obtain ⟨h0, h1, h2⟩ := idx0 t
  obtain ⟨g0, g1, g2⟩ := idx4 t
  blk_ext [PassC.blk, h0, h1, h2, g0, g1, g2]

theorem emb_1 (t : Fin cfg2.N) (o : Fin 256) (n : Fin 1024) : ((win2_4.blk t).view.emb (ix3 (0 : Fin 1) o n) : S8x256x4096.Idx) 1 = o := by
  obtain ⟨g0, g1, g2⟩ := idx4 t
  apply Fin.ext
  blk_simp [g1]
  rfl

theorem arr_out (c : Dev nD) : (PassC.dat W c).arrAt 4 cfg2.N = out W c := by
  refine (PassC.dat W c).arrAt_eq_of_covers 4 _ (by decide +kernel) fun t hf y => ?_
  blk_simp
  rw [PassC.after_4]
  obtain ⟨a, o, n, rfl⟩ : ∃ (a : Fin 1) (o : Fin 256) (n : Fin 1024), y = ix3 a o n := ⟨_, _, _, eq_ix3 y⟩
  obtain rfl : a = 0 := Subsingleton.elim _ _
  refine (out_apply _ _ _ _ o n).trans ?_
  unfold out
  rw [blk0, blk1, blk1, blk2, blk3, emb_1]

/-- The result's buffer after the three calls. -/
theorem result (m : (ℓ : Loc nD τ sig) → Buf (Elt Ideal) ℓ) (c : Dev nD) : Run.U4 m c main_v8 = out (Run.U3 m) c :=
  (Pipeline.afterRegion_arr (PassC.dat (Run.U3 m) c) (Run.U3 m c) winFacts2.arr_inj 4).trans (arr_out (Run.U3 m) c)

end Cert.RegC

end
-- ==== Proof.Order.lean ====
/-
  The greatest of a row of negated distances, taken by a stable sort, are the row's nearest in order: by distance, then by
  position.
-/
module

public import proofs.«01_k».proof.Proof.Rows
public import Idealize.ShloMosaic.Lib.SortFacts
public import Idealize.ShloMosaic.Lib.SortPrefix
public import Idealize.ShloMosaic.Lib.ValueIdx
public import Idealize.ShloMosaic.PureOps.Ideal.Laws

@[expose] public section

noncomputable section

namespace Cert.Order

open Cert.Rows
open Idealize.ShloMosaic Idealize.ShloMosaic.ValueIdx

section

variable {N : ℕ}

/-- By distance, then by position. -/
def nearer (d : Fin N → ℝ) (k k' : Fin N) : Bool := decide (d k < d k') || (decide (d k = d k') && decide (k < k'))

theorem nearer_total (d : Fin N → ℝ) : StrictTotalBefore (nearer d) :=
  StrictTotalBefore.of_key_then_position (fun a b : ℝ => decide (a < b)) d (fun a => by simp)
    (fun a b c hab hbc => by simp only [decide_eq_true_eq] at *; exact hab.trans hbc)
    (fun a b => by simp only [decide_eq_true_eq]; exact lt_trichotomy a b)

/-- Sorted stably by the distance alone, an increasing list of positions comes out by distance, then position. -/
theorem stable_eq (d : Fin N → ℝ) (R : Fin N → Fin N → Bool) (hR : ∀ k k', R k k' = decide (d k < d k'))
    (l : List (Fin N)) (hl : l.Pairwise (· < ·)) : stableSort R l = stableSort (nearer d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [hR]
    unfold nearer
    rw [decide_eq_false (not_lt.2 hab.le), Bool.and_false, Bool.or_false]

theorem sorted (d : Fin N → ℝ) (R : Fin N → Fin N → Bool) (hR : ∀ k k', R k k' = decide (d k < d k')) (i j : Fin N) (hij : i < j) :
    d (sortedFrom R i) < d (sortedFrom R j) ∨ (d (sortedFrom R i) = d (sortedFrom R j) ∧ sortedFrom R i < sortedFrom R j) := by
  have hp : (sortPositions N R).Pairwise fun a b => nearer d b a = false := by
    unfold sortPositions
    rw [stable_eq d R hR _ (List.pairwise_lt_finRange N)]
    exact (nearer_total d).sorted_stableSort _
  have h : nearer d (sortedFrom R j) (sortedFrom R i) = false :=
    List.pairwise_iff_get.mp hp (i.cast (length_sortPositions N R).symm) (j.cast (length_sortPositions N R).symm) hij
  have hne : sortedFrom R i ≠ sortedFrom R j := fun e => hij.ne (sortedFrom_injective R e)
  rcases (nearer_total d).total _ _ hne with g | g
  · unfold nearer at g
    simpa using g
  · rw [h] at g; exact absurd g (by decide)

end

theorem isOrder (d : Fin 1024 → ℝ) (R : Fin 1024 → Fin 1024 → Bool) (hR : ∀ k k', R k k' = decide (d k < d k')) :
    IsOrder d (sortedFrom R) := ⟨sortedFrom_injective R, sorted d R hR⟩

variable {A B N : ℕ}

/-- The order a row of the sort takes. -/
def order (x : (⟨3, ![A, B, N]⟩ : Shape).Idx → EReal) (b : Fin A) (n : Fin B) : Fin N → Fin N :=
  sortedFrom fun k k' => FloatOps.cmpfTotal (F := Ideal) (φ := .f32) .gt (x (ix3 b n k)) (x (ix3 b n k')) == 1#1

theorem order_isOrder (x : (⟨3, ![A, B, 1024]⟩ : Shape).Idx → EReal) (b : Fin A) (n : Fin B) (d : Fin 1024 → ℝ)
    (hx : ∀ k, x (ix3 b n k) = -(d k : EReal)) : IsOrder d (order x b n) := by
  refine isOrder d _ fun k k' => ?_
  rw [hx, hx]
  have e : ((-(d k' : EReal)) < -(d k : EReal)) ↔ d k < d k' := by rw [EReal.neg_lt_neg_iff, EReal.coe_lt_coe_iff]
  show (BitVec.ofBool (decide (-(d k' : EReal) < -(d k : EReal))) == 1#1) = _
  by_cases h : d k < d k'
  · rw [decide_eq_true (e.2 h), decide_eq_true h]; rfl
  · rw [decide_eq_false (mt e.1 h), decide_eq_false h]; rfl

theorem along_eq (b : Fin A) (n : Fin B) (j k : Fin N) :
    (ix3 b n j : (⟨3, ![A, B, N]⟩ : Shape).Idx).along 2 k = ix3 b n k := by
  funext a
  match a with
  | ⟨0, _⟩ => rfl
  | ⟨1, _⟩ => rfl
  | ⟨2, _⟩ => rfl

theorem perm_eq (x : (⟨3, ![A, B, N]⟩ : Shape).Idx → EReal) (b : Fin A) (n : Fin B) (j : Fin N) :
    (sortedFrom fun k k' : Fin N => FloatOps.cmpfTotal (F := Ideal) (φ := .f32) .gt
      (x ((ix3 b n j : (⟨3, ![A, B, N]⟩ : Shape).Idx).along 2 k)) (x ((ix3 b n j : (⟨3, ![A, B, N]⟩ : Shape).Idx).along 2 k')) == 1#1)
      = order x b n :=
  congrArg sortedFrom (funext fun p => funext fun p' => congrArg₂ (fun a c => FloatOps.cmpfTotal (F := Ideal) (φ := .f32) .gt a c == 1#1)
    (congrArg x (along_eq b n j p)) (congrArg x (along_eq b n j p')))

variable {K : ℕ} (h : (⟨3, ![A, B, N]⟩ : Shape).Slices (fun _ => 0) ⟨3, ![A, B, K]⟩)
  (x : (⟨3, ![A, B, N]⟩ : Shape).Idx → EReal) (b : Fin A) (n : Fin B) (k : Fin K) (hk : k.val < N)

theorem topK_values :
    (Host.topK (⟨3, ![A, B, K]⟩ : Shape) 2 (FloatOps.cmpfTotal (F := Ideal) (φ := .f32) .gt) x h).1 (ix3 b n k)
      = x (ix3 b n (order x b n ⟨k.val, hk⟩)) := by
  have e : ∀ j : (⟨3, ![A, B, N]⟩ : Shape).Idx, j = ix3 b n ⟨k.val, hk⟩ →
      (Host.sort2 (⟨3, ![A, B, N]⟩ : Shape) 2 (fun l r : EReal × BitVec 32 => FloatOps.cmpfTotal (F := Ideal) (φ := .f32) .gt l.1 r.1) x
        (fun i => if hd : 2 < (⟨3, ![A, B, N]⟩ : Shape).rank then iotaInDim (⟨3, ![A, B, N]⟩ : Shape) 32 ⟨2, hd⟩ i else 0#32)).1 j
      = x (ix3 b n (order x b n ⟨k.val, hk⟩)) := by
    rintro j rfl
    unfold Host.sort2
    rw [dif_pos (Nat.lt_succ_self 2 : 2 < (⟨3, ![A, B, N]⟩ : Shape).rank)]
    refine (congrArg x (along_eq b n _ _)).trans ?_
    exact congrArg (fun s : Fin N → Fin N => x (ix3 b n (s ⟨k.val, hk⟩))) (perm_eq x b n _)
  refine e _ ?_
  funext a
  match a with
  | ⟨0, _⟩ => exact Fin.ext (Nat.zero_add _)
  | ⟨1, _⟩ => exact Fin.ext (Nat.zero_add _)
  | ⟨2, _⟩ => exact Fin.ext (Nat.zero_add _)

theorem topK_indices :
    (Host.topK (⟨3, ![A, B, K]⟩ : Shape) 2 (FloatOps.cmpfTotal (F := Ideal) (φ := .f32) .gt) x h).2 (ix3 b n k)
      = BitVec.ofNat 32 (order x b n ⟨k.val, hk⟩).val := by
  have e : ∀ j : (⟨3, ![A, B, N]⟩ : Shape).Idx, j = ix3 b n ⟨k.val, hk⟩ →
      (Host.sort2 (⟨3, ![A, B, N]⟩ : Shape) 2 (fun l r : EReal × BitVec 32 => FloatOps.cmpfTotal (F := Ideal) (φ := .f32) .gt l.1 r.1) x
        (fun i => if hd : 2 < (⟨3, ![A, B, N]⟩ : Shape).rank then iotaInDim (⟨3, ![A, B, N]⟩ : Shape) 32 ⟨2, hd⟩ i else 0#32)).2 j
      = BitVec.ofNat 32 (order x b n ⟨k.val, hk⟩).val := by
    rintro j rfl
    unfold Host.sort2
    rw [dif_pos (Nat.lt_succ_self 2 : 2 < (⟨3, ![A, B, N]⟩ : Shape).rank)]
    dsimp only
    rw [dif_pos (Nat.lt_succ_self 2 : 2 < (⟨3, ![A, B, N]⟩ : Shape).rank)]
    refine (congrArg (iotaInDim (⟨3, ![A, B, N]⟩ : Shape) 32 ⟨2, Nat.lt_succ_self 2⟩) (along_eq b n _ _)).trans ?_
    exact congrArg (fun s : Fin N → Fin N => BitVec.ofNat 32 (s ⟨k.val, hk⟩).val) (perm_eq x b n _)
  refine e _ ?_
  funext a
  match a with
  | ⟨0, _⟩ => exact Fin.ext (Nat.zero_add _)
  | ⟨1, _⟩ => exact Fin.ext (Nat.zero_add _)
  | ⟨2, _⟩ => exact Fin.ext (Nat.zero_add _)

end Cert.Order

end
-- ==== Proof.RefNear.lean ====
/-
  The reference's nearest-neighbour half read at an index, where the targets and sources are reals: the distances, the order
  the greatest negated distances are taken in, the weights of the first three, the gathered features and their weighed sum.
-/
module

public import proofs.«01_k».proof.Proof.Order
public import proofs.«01_k».proof.Proof.Gen.ReferenceIdeal.Read

@[expose] public section

set_option maxRecDepth 16384

noncomputable section

namespace Cert.RefNear

open Cert.ReferenceIdeal Cert.ReferenceIdeal.Gen Cert.ReferenceIdeal.Read Cert.Rows Cert.Consts Cert.Order
open Idealize.ShloMosaic Idealize.ShloMosaic.ValueIdx

variable (x0 : S8x3x4096.Idx → EReal) (x1 : S8x3x1024.Idx → EReal)
  (r0 : S8x3x4096.Idx → ℝ) (r1 : S8x3x1024.Idx → ℝ) (h0 : ∀ i, x0 i = (r0 i : EReal)) (h1 : ∀ i, x1 i = (r1 i : EReal))

/-- A target's squared length, -/
def qR (b : Fin 8) (n : Fin 4096) : ℝ := ∑ k : Fin 3, r0 (ix3 b k n) * r0 (ix3 b k n)
/-- a source's, -/
def kR (b : Fin 8) (j : Fin 1024) : ℝ := ∑ k : Fin 3, r1 (ix3 b k j) * r1 (ix3 b k j)
/-- their product, -/
def ip (b : Fin 8) (n : Fin 4096) (j : Fin 1024) : ℝ := ∑ k : Fin 3, r0 (ix3 b k n) * r1 (ix3 b k j)
/-- and half the squared distance less the target's part. -/
def dR (b : Fin 8) (n : Fin 4096) (j : Fin 1024) : ℝ := 1 / 2 * kR r1 b j - ip r0 r1 b n j

theorem c0 : FloatOps.ofBits (F := Ideal) .f32 0x00000000#32 = (0 : EReal) := ofBits_zero
theorem c1 : FloatOps.ofBits (F := Ideal) .f32 0x3F800000#32 = (1 : EReal) := ofBits_one
theorem c2 : FloatOps.ofBits (F := Ideal) .f32 0x40000000#32 = ((2 : ℝ) : EReal) := ofBits_two
theorem ceps : FloatOps.ofBits (F := Ideal) .f32 0x2EDBE6FF#32 = (eps : EReal) := ofBits_eps

include h0 in
theorem v1_apply (b : Fin 8) (n : Fin 4096) : val_main_v1 (F := Ideal) x0 (ix2 b n) = (qR r0 b n : EReal) := by
  rw [val_main_v1_apply, val_main_cst_apply, c0, zero_add]
  refine (Finset.sum_congr rfl fun k _ => ?_).trans (coe_sum _ _)
  rw [val_main_v0_apply]
  refine (congrArg (fun i => x0 i * x0 i) (eq_ix3 (idx_main_v1 (ix2 b n) k))).trans ?_
  exact (congrArg₂ (· * ·) (h0 _) (h0 _)).trans (EReal.coe_mul _ _).symm

include h1 in
theorem v3_apply (b : Fin 8) (n : Fin 1024) : val_main_v3 (F := Ideal) x1 (ix2 b n) = (kR r1 b n : EReal) := by
  rw [val_main_v3_apply, val_main_cst_0_apply, c0, zero_add]
  refine (Finset.sum_congr rfl fun k _ => ?_).trans (coe_sum _ _)
  rw [val_main_v2_apply]
  refine (congrArg (fun i => x1 i * x1 i) (eq_ix3 (idx_main_v3 (ix2 b n) k))).trans ?_
  exact (congrArg₂ (· * ·) (h1 _) (h1 _)).trans (EReal.coe_mul _ _).symm

include h0 h1 in
theorem v4_apply (b : Fin 8) (n : Fin 4096) (j : Fin 1024) :
    val_main_v4 (F := Ideal) x0 x1 (ix3 b n j) = (ip r0 r1 b n j : EReal) := by
  rw [val_main_v4_apply]
  refine (Finset.sum_congr rfl fun k _ => ?_).trans (coe_sum _ _)
  refine (congrArg₂ (fun i i' => x0 i * x1 i') (eq_ix3 (lidx_main_v4 (ix3 b n j) k)) (eq_ix3 (ridx_main_v4 (ix3 b n j) k))).trans ?_
  exact (congrArg₂ (· * ·) (h0 _) (h1 _)).trans (EReal.coe_mul _ _).symm

include h0 h1 in
theorem v13_apply (b : Fin 8) (n : Fin 4096) (j : Fin 1024) :
    val_main_v13 (F := Ideal) x0 x1 (ix3 b n j) = -((2 * dR r0 r1 b n j + qR r0 b n : ℝ) : EReal) := by
  rw [val_main_v13_apply, val_main_v12_apply, val_main_v9_apply, val_main_v7_apply, val_main_v8_apply, val_main_v5_apply, val_main_v6_apply,
    val_main_v11_apply, val_main_v10_apply, val_main_cst_1_apply, c2, v4_apply x0 x1 r0 r1 h0 h1]
  have e1 : val_main_v1 (F := Ideal) x0 (idx_main_v5 (idx_main_v7 (ix3 b n j))) = (qR r0 b n : EReal) :=
    (congrArg (val_main_v1 (F := Ideal) x0) (eq_ix2 (idx_main_v5 (idx_main_v7 (ix3 b n j))))).trans (v1_apply x0 r0 h0 b n)
  have e3 : val_main_v3 (F := Ideal) x1 (idx_main_v6 (idx_main_v8 (ix3 b n j))) = (kR r1 b j : EReal) :=
    (congrArg (val_main_v3 (F := Ideal) x1) (eq_ix2 (idx_main_v6 (idx_main_v8 (ix3 b n j))))).trans (v3_apply x1 r1 h1 b j)
  rw [e1, e3]
  show -(((qR r0 b n : EReal) + (kR r1 b j : EReal)) - ((2 : ℝ) : EReal) * (ip r0 r1 b n j : EReal)) = _
  rw [← EReal.coe_add, ← EReal.coe_mul, ← EReal.coe_sub]
  congr 2
  unfold dR
  ring

/-- The order of a target's sources. -/
def σ (b : Fin 8) (n : Fin 4096) : Fin 1024 → Fin 1024 := order (val_main_v13 (F := Ideal) x0 x1) b n

include h0 h1 in
theorem σ_isOrder (b : Fin 8) (n : Fin 4096) : IsOrder (dR r0 r1 b n) (σ x0 x1 b n) :=
  (order_isOrder (val_main_v13 (F := Ideal) x0 x1) b n (fun j => 2 * dR r0 r1 b n j + qR r0 b n) (v13_apply x0 x1 r0 r1 h0 h1 b n)).congr
    (fun i j h => by linarith) (fun i j h => by linarith)

/-- A position among the first three. -/
def up (k : Fin 3) : Fin 1024 := ⟨k.val, by have := k.isLt; omega⟩

include h0 h1 in
theorem v20_apply (b : Fin 8) (n : Fin 4096) (k : Fin 3) :
    val_main_v20 (F := Ideal) x0 x1 (ix3 b n k) = (rwt (qR r0 b n) (dR r0 r1 b n (σ x0 x1 b n (up k))) : EReal) := by
  rw [val_main_v20_apply, val_main_v19_apply, val_main_cst_4_apply, val_main_v18_apply, val_main_v17_apply, val_main_cst_3_apply,
    val_main_v16_apply, val_main_v15_apply, val_main_cst_2_apply, val_main_v14_apply, c0, c1, ceps]
  have e : val_main_values (F := Ideal) x0 x1 (ix3 b n k) = -((2 * dR r0 r1 b n (σ x0 x1 b n (up k)) + qR r0 b n : ℝ) : EReal) :=
    (topK_values sliceFits_S8x4096x1024_S8x4096x3 (val_main_v13 (F := Ideal) x0 x1) b n k (up k).isLt).trans
      (v13_apply x0 x1 r0 r1 h0 h1 b n _)
  rw [e]
  show Ideal.div 1 (max (max (- -((2 * dR r0 r1 b n (σ x0 x1 b n (up k)) + qR r0 b n : ℝ) : EReal)) 0) (eps : EReal)) = _
  rw [neg_neg, ← EReal.coe_zero, max_coe, max_coe, ← EReal.coe_one, div_coe_coe _ _ (rwt_den_pos _ _).ne']
  rfl

include h0 h1 in
theorem v24_apply (b : Fin 8) (n : Fin 4096) (k : Fin 3) :
    val_main_v24 (F := Ideal) x0 x1 (ix3 b n k) = (rnw (qR r0 b n) (dR r0 r1 b n) (σ x0 x1 b n) (up k) : EReal) := by
  rw [val_main_v24_apply, val_main_v23_apply, val_main_v22_apply, val_main_v21_apply, val_main_cst_5_apply, c0, zero_add,
    v20_apply x0 x1 r0 r1 h0 h1]
  have e : ∀ k' : Fin 3, val_main_v20 (F := Ideal) x0 x1 (idx_main_v21 (idx_main_v22 (idx_main_v23 (ix3 b n k))) k')
      = (rwt (qR r0 b n) (dR r0 r1 b n (σ x0 x1 b n (up k'))) : EReal) := fun k' =>
    (congrArg (val_main_v20 (F := Ideal) x0 x1) (eq_ix3 (idx_main_v21 (idx_main_v22 (idx_main_v23 (ix3 b n k))) k'))).trans
      (v20_apply x0 x1 r0 r1 h0 h1 b n k')
  rw [Finset.sum_congr rfl fun k' _ => e k', coe_sum]
  have hp : 0 < ∑ k' : Fin 3, rwt (qR r0 b n) (dR r0 r1 b n (σ x0 x1 b n (up k'))) :=
    Finset.sum_pos (fun k' _ => rwt_pos _ _) Finset.univ_nonempty
  refine (div_coe_coe _ _ hp.ne').trans ?_
  rw [Fin.sum_univ_three]
  rfl

end Cert.RefNear

end
-- ==== Proof.RefGather.lean ====
/-
  The reference's features gathered at the three nearest sources: the index words are in range, so the in-range mask is
  all ones and the gather reads the source the order names; the weighed sum follows.
-/
module

public import proofs.«01_k».proof.Proof.RefNear

@[expose] public section

set_option maxRecDepth 16384

noncomputable section

namespace Cert.RefNear

open Cert.ReferenceIdeal Cert.ReferenceIdeal.Gen Cert.ReferenceIdeal.Read Cert.Rows Cert.Consts Cert.Order
open Idealize.ShloMosaic Idealize.ShloMosaic.ValueIdx

variable (x0 : S8x3x4096.Idx → EReal) (x1 : S8x3x1024.Idx → EReal) (x3 : S8x512x1024.Idx → EReal)
  (r0 : S8x3x4096.Idx → ℝ) (r1 : S8x3x1024.Idx → ℝ) (r3 : S8x512x1024.Idx → ℝ)
  (h0 : ∀ i, x0 i = (r0 i : EReal)) (h1 : ∀ i, x1 i = (r1 i : EReal)) (h3 : ∀ i, x3 i = (r3 i : EReal))

/-- A source's word, -/
abbrev word (j : Fin 1024) : BitVec 32 := BitVec.ofNat 32 j.val

/-- read signed, is the source; -/
theorem toInt_word (j : Fin 1024) : (word j).toInt = (j.val : ℤ) := by
  have hj := j.isLt
  rw [BitVec.toInt_eq_toNat_of_lt (by rw [BitVec.toNat_ofNat]; omega), BitVec.toNat_ofNat]
  omega

/-- it isn't negative, -/
theorem slt_word (j : Fin 1024) : IntOp.cmpi .slt (word j) 0#32 = 0#1 := by
  have : (word j).slt 0#32 = false := by
    rw [BitVec.slt_eq_decide, toInt_word]
    exact decide_eq_false (by simp)
  show BitVec.ofBool ((word j).slt 0#32) = _
  rw [this]
  rfl

theorem sge_word (j : Fin 1024) : IntOp.cmpi .sge (word j) 0#32 = 1#1 := by
  have : (0#32).sle (word j) = true := by
    rw [BitVec.sle_eq_decide, toInt_word]
    exact decide_eq_true (by simp)
  show BitVec.ofBool ((0#32).sle (word j)) = _
  rw [this]
  rfl

/-- and it isn't past the last source. -/
theorem sle_word (j : Fin 1024) : IntOp.cmpi .sle (word j) 1023#32 = 1#1 := by
  have hj := j.isLt
  have : (word j).sle 1023#32 = true := by
    rw [BitVec.sle_eq_decide, toInt_word]
    refine decide_eq_true ?_
    have e : (1023#32 : BitVec 32).toInt = 1023 := by decide
    rw [e]; omega
  show BitVec.ofBool ((word j).sle 1023#32) = _
  rw [this]
  rfl

theorem indices_apply (b : Fin 8) (n : Fin 4096) (k : Fin 3) :
    val_main_indices (F := Ideal) x0 x1 (ix3 b n k) = word (σ x0 x1 b n (up k)) :=
  topK_indices sliceFits_S8x4096x1024_S8x4096x3 (val_main_v13 (F := Ideal) x0 x1) b n k (up k).isLt

theorem v26_apply (b : Fin 8) (o : Fin 1) (n : Fin 4096) (k : Fin 3) :
    val_main_v26 (F := Ideal) x0 x1 (ix4 b o n k) = word (σ x0 x1 b n (up k)) := by
  rw [val_main_v26_apply]
  exact (congrArg (val_main_indices (F := Ideal) x0 x1) (eq_ix3 (idx_main_v26 (ix4 b o n k)))).trans (indices_apply x0 x1 b n k)

theorem call0_v4_apply (b : Fin 8) (o : Fin 1) (n : Fin 4096) (k : Fin 3) :
    val_main_call0_v4 (F := Ideal) x0 x1 (ix4 b o n k) = word (σ x0 x1 b n (up k)) := by
  rw [val_main_call0_v4_apply, val_main_call0_v1_apply, v26_apply, val_main_call0_v0_apply, val_main_call0_c_apply, slt_word]
  rfl

theorem call0_idx_v5 (b : Fin 8) (n : Fin 4096) (k : Fin 3) (o : Fin 1) : idx_main_call0_v5 (ix4 b n k o) = ix4 b 0 n k := by
  have hb := b.isLt; have hn := n.isLt; have hk := k.isLt; have ho := o.isLt
  funext a
  match a with
  | ⟨0, _⟩ => exact Fin.ext (by show (((b.val * 4096 + n.val) * 3 + k.val) * 1 + o.val) / 12288 = b.val; omega)
  | ⟨1, _⟩ => rfl
  | ⟨2, _⟩ => exact Fin.ext (by show (((b.val * 4096 + n.val) * 3 + k.val) * 1 + o.val) / 3 % 4096 = n.val; omega)
  | ⟨3, _⟩ => exact Fin.ext (by show (((b.val * 4096 + n.val) * 3 + k.val) * 1 + o.val) % 3 = k.val; omega)

theorem call0_v5_apply (b : Fin 8) (n : Fin 4096) (k : Fin 3) (o : Fin 1) :
    val_main_call0_v5 (F := Ideal) x0 x1 (ix4 b n k o) = word (σ x0 x1 b n (up k)) := by
  rw [val_main_call0_v5_apply, call0_idx_v5, call0_v4_apply]

theorem call0_v12_at (b : Fin 8) (n : Fin 4096) (k : Fin 3) (o : Fin 1) :
    val_main_call0_v12 (F := Ideal) x0 x1 (ix4 b n k o) = 1#1 := by
  rw [val_main_call0_v12_apply, val_main_call0_v8_apply, val_main_call0_v11_apply, call0_v5_apply, val_main_call0_v7_apply,
    val_main_call0_c_2_apply, val_main_call0_v10_apply, val_main_call0_v9_apply, val_main_call0_c_1_apply, sge_word, sle_word]
  rfl

theorem call0_v12_apply (i : S8x4096x3x1.Idx) : val_main_call0_v12 (F := Ideal) x0 x1 i = 1#1 :=
  (congrArg (val_main_call0_v12 (F := Ideal) x0 x1) (eq_ix4 i)).trans (call0_v12_at x0 x1 (i 0) (i 1) (i 2) (i 3))

theorem foldl_and_ones {α : Type} (l : List α) (f : α → BitVec 1) (hf : ∀ a, f a = 1#1) :
    l.foldl (fun r a => IntOp.andi r (f a)) 1#1 = 1#1 := by
  induction l with
  | nil => rfl
  | cons a l ih => rw [List.foldl_cons, hf a]; exact ih

theorem call0_v13_apply (i : S8x4096x3.Idx) : val_main_call0_v13 (F := Ideal) x0 x1 i = 1#1 := by
  unfold val_main_call0_v13
  rw [Host.reduce_eq_foldl]
  exact foldl_and_ones _ _ (call0_v12_apply x0 x1)

theorem call0_idx_v6 (b : Fin 8) (c : Fin 512) (j : Fin 1024) : idx_main_v25 (idx_main_call0_v6 (ix3 b c j)) = ix3 b c j := by
  have hb := b.isLt; have hn := c.isLt; have hk := j.isLt
  funext a
  match a with
  | ⟨0, _⟩ => exact Fin.ext (by show ((b.val * 512 + c.val) * 1024 + j.val) / 524288 = b.val; omega)
  | ⟨1, _⟩ => exact Fin.ext (by show ((b.val * 512 + c.val) * 1024 + j.val) / 1024 % 512 = c.val; omega)
  | ⟨2, _⟩ => exact Fin.ext (by show ((b.val * 512 + c.val) * 1024 + j.val) % 1024 = j.val; omega)

theorem call0_v6_apply (b : Fin 8) (c : Fin 512) (j : Fin 1024) : val_main_call0_v6 (F := Ideal) x3 (ix3 b c j) = x3 (ix3 b c j) := by
  rw [val_main_call0_v6_apply, val_main_v25_apply, call0_idx_v6]

/-- The gather's dimension numbers. -/
abbrev gd := gather_S8x512x1024_S8x4096x3x1_S8x512x4096x3_1_2_0_0_2_3_15121

/-- The batched gather at an index: the operand at that batch and channel, at the source the word names, held into range. -/
theorem gather_apply (x : S8x512x1024.Idx → EReal) (ix : S8x4096x3x1.Idx → BitVec 32) (b : Fin 8) (c : Fin 512) (n : Fin 4096)
    (k : Fin 3) :
    Host.gather gd x ix (ix4 b c n k) = x (ix3 b c ⟨min (ix (ix4 b n k 0)).toInt.toNat 1023, by omega⟩) := by
  unfold Host.gather
  congr 1
  funext a
  refine Fin.ext ?_
  show gd.start (ix4 b c n k) ix a + gd.batchCoord (ix4 b c n k) a + gd.offCoord (ix4 b c n k) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · have hb : (0 : Fin 3) ∈ gd.operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  · have hb : (1 : Fin 3) ∉ gd.operandBatchingDims := fun h => absurd (List.mem_singleton.mp h) (by decide)
    have hc : (1 : Fin 3) ∉ gd.collapsedSliceDims := fun h => absurd (List.mem_singleton.mp h) (by decide)
    have hm : (1 : Fin 3) ∉ gd.startIndexMap := fun h => absurd (List.mem_singleton.mp h) (by decide)
    have hk : (1 : Fin 3) ∈ gd.sKept := (GatherDims.mem_sKept _ _).mpr ⟨hc, hb⟩
    rw [GatherDims.batchCoord_eq_zero _ _ _ hb]
    unfold GatherDims.start GatherDims.offCoord
    rw [dif_neg hm, dif_pos hk]
    simp only [Nat.zero_add]
    rfl
  · have hb : (2 : Fin 3) ∉ gd.operandBatchingDims := fun h => absurd (List.mem_singleton.mp h) (by decide)
    have hc : (2 : Fin 3) ∈ gd.collapsedSliceDims := List.mem_singleton.mpr rfl
    have hm : (2 : Fin 3) ∈ gd.startIndexMap := List.mem_singleton.mpr rfl
    rw [GatherDims.batchCoord_eq_zero _ _ _ hb, GatherDims.offCoord_eq_zero _ _ _ (fun h => ((GatherDims.mem_sKept _ _).mp h).1 hc)]
    simp only [Nat.add_zero]
    unfold GatherDims.start
    rw [dif_pos hm]
    have hsi : gd.siIdx (ix4 b c n k) ⟨List.idxOf (2 : Fin 3) gd.startIndexMap, List.idxOf_lt_length_iff.2 hm⟩ = ix4 b n k 0 := by
      funext e
      refine Fin.ext ?_
      match e with
      | ⟨0, _⟩ => rfl
      | ⟨1, _⟩ => rfl
      | ⟨2, _⟩ => rfl
      | ⟨3, _⟩ => rfl
    rw [hsi]
    rfl

theorem select_one {α : Type} (a b : α) : Scalar.select 1#1 a b = a := rfl

theorem held (b : Fin 8) (n : Fin 4096) (k : Fin 3) (h : min (val_main_call0_v5 (F := Ideal) x0 x1 (ix4 b n k 0)).toInt.toNat 1023 < 1024) :
    (⟨min (val_main_call0_v5 (F := Ideal) x0 x1 (ix4 b n k 0)).toInt.toNat 1023, h⟩ : Fin 1024) = σ x0 x1 b n (up k) := by
  refine Fin.ext ?_
  show min (val_main_call0_v5 (F := Ideal) x0 x1 (ix4 b n k 0)).toInt.toNat 1023 = _
  rw [call0_v5_apply, toInt_word, Int.toNat_natCast]
  exact min_eq_left (Nat.le_of_lt_succ (σ x0 x1 b n (up k)).isLt)

theorem v27_apply (b : Fin 8) (c : Fin 512) (n : Fin 4096) (k : Fin 3) :
    val_main_v27 (F := Ideal) x0 x1 x3 (ix4 b c n k) = x3 (ix3 b c (σ x0 x1 b n (up k))) := by
  rw [val_main_v27_apply, val_main_call0_v15_apply, call0_v13_apply, select_one]
  unfold val_main_call0_v14
  rw [gather_apply, call0_v6_apply, held]

/-- The features of a target: those of its three nearest sources, weighed. -/
def near3 (b : Fin 8) (c : Fin 512) (n : Fin 4096) : ℝ :=
  ∑ k : Fin 3, r3 (ix3 b c (σ x0 x1 b n (up k))) * rnw (qR r0 b n) (dR r0 r1 b n) (σ x0 x1 b n) (up k)

include h0 h1 h3 in
theorem v31_apply (b : Fin 8) (c : Fin 512) (n : Fin 4096) :
    val_main_v31 (F := Ideal) x0 x1 x3 (ix3 b c n) = (near3 x0 x1 r0 r1 r3 b c n : EReal) := by
  rw [val_main_v31_apply, val_main_cst_6_apply, c0, zero_add]
  refine (Finset.sum_congr rfl fun k _ => ?_).trans (coe_sum _ _)
  refine (congrArg (val_main_v30 (F := Ideal) x0 x1 x3) (eq_ix4 (idx_main_v31 (ix3 b c n) k))).trans ?_
  show val_main_v30 (F := Ideal) x0 x1 x3 (ix4 b c n k) = _
  rw [val_main_v30_apply, v27_apply, val_main_v29_apply, val_main_v28_apply, h3]
  have e : val_main_v24 (F := Ideal) x0 x1 (idx_main_v28 (idx_main_v29 (ix4 b c n k))) = _ :=
    (congrArg (val_main_v24 (F := Ideal) x0 x1) (eq_ix3 (idx_main_v28 (idx_main_v29 (ix4 b c n k))))).trans
      (v24_apply x0 x1 r0 r1 h0 h1 b n k)
  rw [e]
  exact (EReal.coe_mul _ _).symm

end Cert.RefNear

end
-- ==== Proof.ReadA.lean ====
/-
  The first call's values read at an index: the distances of a block's targets to its batch's sources, the interpolation
  weights on either path, and the product of the first layer.
-/
module

public import proofs.«01_k».proof.Proof.IdealPassA
public import proofs.«01_k».proof.Proof.ReadBase

@[expose] public section

set_option maxRecDepth 16384

noncomputable section

namespace Cert.ReadA

open Cert.KernelIdeal Cert.KernelIdeal.Gen Cert.KernelIdeal.PassA Cert.Rows Cert.Consts Cert.ReadBase
open Idealize.ShloMosaic Idealize.ShloMosaic.ValueIdx

variable (x0 : Vec Ideal S1x3x512 .f32) (x1 : Vec Ideal S1x3x1024 .f32)

/-- Half the distance of target `n` to source `j`, less the target's part, -/
def sel (n : Fin 512) (j : Fin 1024) : EReal :=
  ((1 / 2 : ℝ) : EReal) * (∑ c : Fin 3, x1 (ix3 (0 : Fin 1) c j) * x1 (ix3 (0 : Fin 1) c j))
    - ∑ c : Fin 3, x0 (ix3 (0 : Fin 1) c n) * x1 (ix3 (0 : Fin 1) c j)
/-- and the target's part. -/
def qq (n : Fin 512) : EReal := ∑ c : Fin 3, x0 (ix3 (0 : Fin 1) c n) * x0 (ix3 (0 : Fin 1) c n) * 1

theorem pay15_apply (n : Fin 512) (j : Fin 1024) : k0_pay15 (F := Ideal) x0 x1 (ix2 n j) = sel x0 x1 n j := by
  unfold k0_pay15 k0_pay14 sel
  simp only [subf_apply]
  congr 1
  · refine (broadcastTo_1b_ab_apply _ _ n j).trans ?_
    rw [mulf_apply, broadcast_apply]
    congr 1
    · exact ofBits_half
    · refine (shapeCast_a_1a_apply _ _ (0 : Fin 1) j).trans ((Ideal.multiReduction_add_single _ _ _ _ _ _).trans ?_)
      refine Finset.sum_congr rfl fun c _ => ?_
      rw [mulf_apply]
      have e : (shapeCast S3x1024 x1 shapeCasts_S1x3x1024_S3x1024) (reduces_S3x1024_S1024.lift (ix1 j) c) = x1 (ix3 (0 : Fin 1) c j) :=
        (congrArg _ (by funext ax; match ax with | ⟨0, _⟩ => rfl | ⟨1, _⟩ => rfl : reduces_S3x1024_S1024.lift (ix1 j) c = ix2 c j)).trans
          (shapeCast_1ab_ab_apply x1 _ c j)
      exact congrArg₂ (· * ·) e e
  · refine (mm dot_S3x512_S3x1024_S512x1024_0_0_1_1_n_n none 3 rfl rfl _ _ (ix2 n j) (fun c => ix2 c n) (fun c => ix2 c j) ?_ ?_).trans ?_
    · intro k; funext ax; match ax with | ⟨0, _⟩ => rfl | ⟨1, _⟩ => rfl
    · intro k; funext ax; match ax with | ⟨0, _⟩ => rfl | ⟨1, _⟩ => rfl
    · refine Finset.sum_congr rfl fun c _ => ?_
      rw [truncf_apply, truncf_apply]
      exact congrArg₂ (· * ·) (shapeCast_1ab_ab_apply x0 _ c n) (shapeCast_1ab_ab_apply x1 _ c j)

theorem pay16_apply (n : Fin 512) : k0_pay16 (F := Ideal) x0 (ix2 n (0 : Fin 1)) = qq x0 n := by
  unfold k0_pay16 k0_pay14 qq
  refine (slice2_axis1_apply 0 _ _ n (0 : Fin 1) (0 : Fin 8) rfl).trans ?_
  refine (mm dot_S3x512_S3x8_S512x8_0_0_1_1_n_n (some .fp32) 3 rfl rfl _ _ (ix2 n (0 : Fin 8)) (fun c => ix2 c n) (fun c => ix2 c (0 : Fin 8)) ?_ ?_).trans ?_
  · intro k; funext ax; match ax with | ⟨0, _⟩ => rfl | ⟨1, _⟩ => rfl
  · intro k; funext ax; match ax with | ⟨0, _⟩ => rfl | ⟨1, _⟩ => rfl
  · refine Finset.sum_congr rfl fun c _ => ?_
    rw [mulf_apply, broadcast_apply]
    exact congrArg₂ (· * ·) (congrArg₂ (· * ·) (shapeCast_1ab_ab_apply x0 _ c n) (shapeCast_1ab_ab_apply x0 _ c n)) ofBits_one

theorem row15 (n : Fin 512) : (fun j => k0_pay15 (F := Ideal) x0 x1 (ix2 n j)) = sel x0 x1 n := funext (pay15_apply x0 x1 n)

/-! ## The direct path -/

theorem pay17_apply (n : Fin 512) : k0_pay17 (F := Ideal) x0 x1 (ix2 n (0 : Fin 1)) = mn (sel x0 x1 n) := by
  unfold k0_pay17; exact (min_col _ _ _ _ _ n).trans (congrArg mn (row15 x0 x1 n))
theorem pay18_apply (n : Fin 512) (j : Fin 1024) (a b : EReal) :
    Scalar.select (k0_pay18 (F := Ideal) x0 x1 (ix2 n j)) a b = if sel x0 x1 n j = mn (sel x0 x1 n) then a else b := by
  unfold k0_pay18
  rw [cmpf_apply, sel_eq, pay15_apply, col_apply, pay17_apply]
theorem pay19_apply (n : Fin 512) (j : Fin 1024) : k0_pay19 (F := Ideal) x0 x1 (ix2 n j) = cutAll (sel x0 x1 n) j := by
  unfold k0_pay19
  rw [select_apply, pay18_apply, broadcast_apply, pay15_apply, big_top]; rfl
theorem pay20_apply (n : Fin 512) : k0_pay20 (F := Ideal) x0 x1 (ix2 n (0 : Fin 1)) = mn (cutAll (sel x0 x1 n)) := by
  unfold k0_pay20; exact (min_col _ _ _ _ _ n).trans (congrArg mn (funext (pay19_apply x0 x1 n)))
theorem pay21_apply (n : Fin 512) (j : Fin 1024) (a b : EReal) :
    Scalar.select (k0_pay21 (F := Ideal) x0 x1 (ix2 n j)) a b = if cutAll (sel x0 x1 n) j = mn (cutAll (sel x0 x1 n)) then a else b := by
  unfold k0_pay21
  rw [cmpf_apply, sel_eq, pay19_apply, col_apply, pay20_apply]
theorem pay22_apply (n : Fin 512) (j : Fin 1024) : k0_pay22 (F := Ideal) x0 x1 (ix2 n j) = cutAll (cutAll (sel x0 x1 n)) j := by
  unfold k0_pay22
  rw [select_apply, pay21_apply, broadcast_apply, pay19_apply, big_top]; rfl
theorem pay23_apply (n : Fin 512) : k0_pay23 (F := Ideal) x0 x1 (ix2 n (0 : Fin 1)) = mn (cutAll (cutAll (sel x0 x1 n))) := by
  unfold k0_pay23; exact (min_col _ _ _ _ _ n).trans (congrArg mn (funext (pay22_apply x0 x1 n)))
theorem pay24_apply (n : Fin 512) (j : Fin 1024) (a b : EReal) :
    Scalar.select (k0_pay24 (F := Ideal) x0 x1 (ix2 n j)) a b
      = if cutAll (cutAll (sel x0 x1 n)) j = mn (cutAll (cutAll (sel x0 x1 n))) then a else b := by
  unfold k0_pay24
  rw [cmpf_apply, sel_eq, pay22_apply, col_apply, pay23_apply]

/-- One over the distance, cut off from below, as the payloads spell it, -/
def invV (v20 m : FVec Ideal S512x1 .f32) : FVec Ideal S512x1 .f32 :=
  divf (broadcast S512x1 (Scalar.ofBits (F := Ideal) .f32 0x3F800000#32))
      (maximumf (maximumf (addf (mulf (broadcast S512x1 (Scalar.ofBits (F := Ideal) .f32 0x40000000#32)) m) v20)
        (broadcast S512x1 (Scalar.ofBits (F := Ideal) .f32 0x00000000#32)))
        (broadcast S512x1 (Scalar.ofBits (F := Ideal) .f32 0x2EDBE6FF#32)))
/-- the three weights' sum, -/
def totV (v20 a b c : FVec Ideal S512x1 .f32) : FVec Ideal S512x1 .f32 := addf (addf (invV v20 a) (invV v20 b)) (invV v20 c)
/-- and a weight put where a mask holds. -/
def putV (m : IVec S512x1024 1) (w : FVec Ideal S512x1 .f32) : FVec Ideal S512x1024 .f32 :=
  select m (broadcastTo S512x1024 (shapeCast S512x1 w shapeCasts_S512x1_S512x1) broadcasts_S512x1_S512x1024)
    (broadcast S512x1024 (Scalar.ofBits (F := Ideal) .f32 0x00000000#32))

theorem e0 : Scalar.ofBits (F := Ideal) .f32 0x00000000#32 = (0 : EReal) := ofBits_zero
theorem e1 : Scalar.ofBits (F := Ideal) .f32 0x3F800000#32 = (1 : EReal) := ofBits_one
theorem e2 : Scalar.ofBits (F := Ideal) .f32 0x40000000#32 = ((2 : ℝ) : EReal) := ofBits_two
theorem e3 : Scalar.ofBits (F := Ideal) .f32 0x2EDBE6FF#32 = (eps : EReal) := ofBits_eps
theorem e1024 : Scalar.ofBits (F := Ideal) .f32 0x44800000#32 = ((1024 : ℝ) : EReal) := ofBits_1024

theorem inv_apply (v20 m : FVec Ideal S512x1 .f32) (i : S512x1.Idx) : invV v20 m i = wt (v20 i) (m i) := by
  unfold invV
  rw [divf_apply, maximumf_apply, maximumf_apply, addf_apply, mulf_apply, broadcast_apply, broadcast_apply, broadcast_apply,
    broadcast_apply, e0, e1, e2, e3]
  rfl

theorem nw_apply (v20 a b c m : FVec Ideal S512x1 .f32) (i : S512x1.Idx) :
    divf (invV v20 m) (totV v20 a b c) i = nw (v20 i) (a i) (b i) (c i) (m i) := by
  unfold totV
  rw [divf_apply, addf_apply, addf_apply, inv_apply, inv_apply, inv_apply, inv_apply]
  rfl

theorem put_apply (m : IVec S512x1024 1) (w : FVec Ideal S512x1 .f32) (n : Fin 512) (j : Fin 1024) :
    putV m w (ix2 n j) = Scalar.select (m (ix2 n j)) (w (ix2 n (0 : Fin 1))) 0 := by
  unfold putV
  rw [select_apply, col_apply, shapeCast_self, broadcast_apply, e0]

theorem pay26_eq (v20 a b c : FVec Ideal S512x1 .f32) (m1 m2 m3 : IVec S512x1024 1) :
    k0_pay26 (F := Ideal) v20 a m1 b m2 c m3 (k0_pay25 (F := Ideal))
      = addf (addf (putV m1 (divf (invV v20 a) (totV v20 a b c))) (putV m2 (divf (invV v20 b) (totV v20 a b c))))
          (putV m3 (divf (invV v20 c) (totV v20 a b c))) := rfl

/-- The direct path's weights before rounding. -/
abbrev direct : FVec Ideal S512x1024 .f32 :=
  k0_pay26 (F := Ideal) (k0_pay16 x0) (k0_pay17 x0 x1) (k0_pay18 x0 x1) (k0_pay20 x0 x1) (k0_pay21 x0 x1) (k0_pay23 x0 x1)
      (k0_pay24 x0 x1) (k0_pay25 (F := Ideal))

theorem pay26_apply (n : Fin 512) (j : Fin 1024) : direct x0 x1 (ix2 n j) = fastRow (qq x0 n) (sel x0 x1 n) j := by
  unfold direct
  rw [pay26_eq, addf_apply, addf_apply, put_apply, put_apply, put_apply, pay18_apply, pay21_apply, pay24_apply,
    nw_apply, nw_apply, nw_apply, pay16_apply, pay17_apply, pay20_apply, pay23_apply]
  rfl

theorem fast_apply (n : Fin 512) (j : Fin 1024) : sFast x0 x1 (ix2 n j) = fastRow (qq x0 n) (sel x0 x1 n) j := by
  unfold sFast k0_pay28 k0_pay27
  rw [shapeCast_self, truncf_apply]
  exact pay26_apply x0 x1 n j

/-- An absolute value. -/
def eabs (x : EReal) : EReal := max x (-x)

/-- The check: how far the direct weights' sum is from the number of targets. -/
theorem pay29_apply (v : FVec Ideal S512x1024 .f32) :
    k0_pay29 (F := Ideal) v = eabs ((∑ n : Fin 512, ∑ j : Fin 1024, v (ix2 n j)) - ((512 : ℝ) : EReal)) := by
  unfold k0_pay29
  have e512 : Scalar.ofBits (F := Ideal) .f32 0x44000000#32 = ((512 : ℝ) : EReal) := ofBits_512
  rw [e512]
  refine congrArg (fun x : EReal => eabs (x - ((512 : ℝ) : EReal))) ?_
  have e : ∀ i, multiReduction (F := Ideal) .add [1, 2] S1 (shapeCast S1x512x1024 v shapeCasts_S512x1024_S1x512x1024) 0x00000000#32
      reduces_S1x512x1024_S1 (.inl rfl) rfl i = ∑ i, shapeCast S1x512x1024 v shapeCasts_S512x1024_S1x512x1024 i := fun i =>
    Ideal.multiReduction_add_total (φ := .f32) _ 0x00000000#32 reduces_S1x512x1024_S1 (fun b => by match b with | ⟨0, _⟩ => rfl) (.inl rfl) rfl i
  refine (e _).trans ?_
  rw [← sum_idx2 (fun i => v i)]
  unfold shapeCast
  exact Equiv.sum_comp _ (fun i : S512x1024.Idx => v i)

theorem slow_iff : slow x0 x1 ↔ (tau : EReal) < eabs ((∑ n : Fin 512, ∑ j : Fin 1024, fastRow (qq x0 n) (sel x0 x1 n) j) - ((512 : ℝ) : EReal)) := by
  unfold slow
  have et : Scalar.ofBits (F := Ideal) .f32 0x3A83126F#32 = (tau : EReal) := ofBits_tau
  rw [pay29_apply, et]
  simp only [pay26_apply]
  generalize eabs _ = x
  show Scalar.cmpi .ne (Scalar.extui (BitVec.ofBool (decide ((tau : EReal) < x)))) 0#32 = 1#1 ↔ _
  by_cases h : (tau : EReal) < x
  · simp only [h, decide_true, iff_true]; decide
  · simp only [h, decide_false, iff_false]; decide

/-! ## The path that breaks ties by position -/

theorem pay2_apply (n : Fin 512) (j : Fin 1024) : k0_pay2 (F := Ideal) (ix2 n j) = pos j := by
  unfold k0_pay2 pos
  rw [sitofp_apply]
  show (((BitVec.ofNat 32 (0 * 1024 + j.val)).toInt : ℝ) : EReal) = _
  have hj := j.isLt
  have : (BitVec.ofNat 32 (0 * 1024 + j.val)).toInt = (j.val : ℤ) := by
    rw [BitVec.toInt_eq_toNat_of_lt (by rw [BitVec.toNat_ofNat]; omega), BitVec.toNat_ofNat]; congr 1; omega
  rw [this]; norm_cast

/-- The first position of a row's minimum, as the payloads spell it. -/
def aminV (x : FVec Ideal S512x1024 .f32) (m : FVec Ideal S512x1 .f32) : FVec Ideal S512x1 .f32 :=
  shapeCast S512x1 (multiReduction .minimumf [1] S512
    (select (cmpf .oeq x (broadcastTo S512x1024 m broadcasts_S512x1_S512x1024)) (k0_pay2 (F := Ideal))
      (broadcast S512x1024 (Scalar.ofBits (F := Ideal) .f32 0x44800000#32))) 0x7F800000#32 reduces_S512x1024_S512 (.inl rfl) rfl)
    shapeCasts_S512_S512x1

theorem aminV_apply (x : FVec Ideal S512x1024 .f32) (m : FVec Ideal S512x1 .f32) (n : Fin 512) (f : Fin 1024 → EReal)
    (hf : ∀ j, x (ix2 n j) = f j) (hm : m (ix2 n (0 : Fin 1)) = mn f) : aminV x m (ix2 n (0 : Fin 1)) = amin f := by
  unfold aminV amin
  refine (min_col _ _ _ _ _ n).trans (congrArg mn (funext fun j => ?_))
  rw [select_apply, cmpf_apply, sel_eq, col_apply, pay2_apply, broadcast_apply, hf, hm, e1024]

/-- The row with the source at a position removed. -/
def cutV (x : FVec Ideal S512x1024 .f32) (i : FVec Ideal S512x1 .f32) : FVec Ideal S512x1024 .f32 :=
  select (cmpf .oeq (k0_pay2 (F := Ideal)) (broadcastTo S512x1024 i broadcasts_S512x1_S512x1024))
    (broadcast S512x1024 (Named.named (F := Ideal) κ "big" (φ := .f32) 0x7149F2CA#32)) x

theorem cutV_apply (x : FVec Ideal S512x1024 .f32) (i : FVec Ideal S512x1 .f32) (n : Fin 512) (f : Fin 1024 → EReal)
    (hf : ∀ j, x (ix2 n j) = f j) (hi : i (ix2 n (0 : Fin 1)) = amin f) (j : Fin 1024) : cutV x i (ix2 n j) = cutOne f j := by
  unfold cutV cutOne
  rw [select_apply, cmpf_apply, sel_eq, col_apply, pay2_apply, broadcast_apply, hf, hi, big_top]

theorem pay3_apply (n : Fin 512) : k0_pay3 (F := Ideal) (k0_pay15 x0 x1) (ix2 n (0 : Fin 1)) = mn (sel x0 x1 n) := by
  unfold k0_pay3; exact (min_col _ _ _ _ _ n).trans (congrArg mn (row15 x0 x1 n))
theorem pay4_apply (n : Fin 512) : k0_pay4 (F := Ideal) (k0_pay15 x0 x1) (ix2 n (0 : Fin 1)) = amin (sel x0 x1 n) :=
  aminV_apply _ _ n _ (pay15_apply x0 x1 n) (pay3_apply x0 x1 n)
theorem pay5_apply (n : Fin 512) (j : Fin 1024) :
    k0_pay5 (F := Ideal) (k0_pay15 x0 x1) (Named.named κ "big" 0x7149F2CA#32) (ix2 n j) = cutOne (sel x0 x1 n) j :=
  cutV_apply _ _ n _ (pay15_apply x0 x1 n) (pay4_apply x0 x1 n) j
theorem pay6_apply (n : Fin 512) :
    k0_pay6 (F := Ideal) (k0_pay15 x0 x1) (Named.named κ "big" 0x7149F2CA#32) (ix2 n (0 : Fin 1)) = mn (cutOne (sel x0 x1 n)) := by
  unfold k0_pay6; exact (min_col _ _ _ _ _ n).trans (congrArg mn (funext (pay5_apply x0 x1 n)))
theorem pay7_apply (n : Fin 512) :
    k0_pay7 (F := Ideal) (k0_pay15 x0 x1) (Named.named κ "big" 0x7149F2CA#32) (ix2 n (0 : Fin 1)) = amin (cutOne (sel x0 x1 n)) :=
  aminV_apply _ _ n _ (pay5_apply x0 x1 n) (pay6_apply x0 x1 n)
theorem pay8_apply (n : Fin 512) (j : Fin 1024) :
    k0_pay8 (F := Ideal) (k0_pay15 x0 x1) (Named.named κ "big" 0x7149F2CA#32) (ix2 n j) = cutOne (cutOne (sel x0 x1 n)) j :=
  cutV_apply _ _ n _ (pay5_apply x0 x1 n) (pay7_apply x0 x1 n) j
theorem pay9_apply (n : Fin 512) :
    k0_pay9 (F := Ideal) (k0_pay15 x0 x1) (Named.named κ "big" 0x7149F2CA#32) (ix2 n (0 : Fin 1)) = mn (cutOne (cutOne (sel x0 x1 n))) := by
  unfold k0_pay9; exact (min_col _ _ _ _ _ n).trans (congrArg mn (funext (pay8_apply x0 x1 n)))
theorem pay10_apply (n : Fin 512) :
    k0_pay10 (F := Ideal) (k0_pay15 x0 x1) (Named.named κ "big" 0x7149F2CA#32) (ix2 n (0 : Fin 1)) = amin (cutOne (cutOne (sel x0 x1 n))) :=
  aminV_apply _ _ n _ (pay8_apply x0 x1 n) (pay9_apply x0 x1 n)

/-- Whether the position is the one a column names. -/
def atV (i : FVec Ideal S512x1 .f32) : IVec S512x1024 1 :=
  cmpf .oeq (k0_pay2 (F := Ideal)) (broadcastTo S512x1024 i broadcasts_S512x1_S512x1024)

theorem atV_apply (i : FVec Ideal S512x1 .f32) (n : Fin 512) (j : Fin 1024) (a b : EReal) :
    Scalar.select (atV i (ix2 n j)) a b = if pos j = i (ix2 n (0 : Fin 1)) then a else b := by
  unfold atV
  rw [cmpf_apply, sel_eq, col_apply, pay2_apply]

theorem slow_eq : sSlow x0 x1
    = shapeCast S512x1024 (truncf .bf16 (addf (addf
        (putV (atV (k0_pay4 (k0_pay15 x0 x1))) (divf (invV (k0_pay16 x0) (k0_pay3 (k0_pay15 x0 x1))) (totV (k0_pay16 x0) (k0_pay3 (k0_pay15 x0 x1)) (k0_pay6 (k0_pay15 x0 x1) (Named.named κ "big" 0x7149F2CA#32)) (k0_pay9 (k0_pay15 x0 x1) (Named.named κ "big" 0x7149F2CA#32)))))
        (putV (atV (k0_pay7 (k0_pay15 x0 x1) (Named.named κ "big" 0x7149F2CA#32))) (divf (invV (k0_pay16 x0) (k0_pay6 (k0_pay15 x0 x1) (Named.named κ "big" 0x7149F2CA#32))) (totV (k0_pay16 x0) (k0_pay3 (k0_pay15 x0 x1)) (k0_pay6 (k0_pay15 x0 x1) (Named.named κ "big" 0x7149F2CA#32)) (k0_pay9 (k0_pay15 x0 x1) (Named.named κ "big" 0x7149F2CA#32))))))
        (putV (atV (k0_pay10 (k0_pay15 x0 x1) (Named.named κ "big" 0x7149F2CA#32))) (divf (invV (k0_pay16 x0) (k0_pay9 (k0_pay15 x0 x1) (Named.named κ "big" 0x7149F2CA#32))) (totV (k0_pay16 x0) (k0_pay3 (k0_pay15 x0 x1)) (k0_pay6 (k0_pay15 x0 x1) (Named.named κ "big" 0x7149F2CA#32)) (k0_pay9 (k0_pay15 x0 x1) (Named.named κ "big" 0x7149F2CA#32)))))) bitsLt_bf16_f32)
        shapeCasts_S512x1024_S512x1024 := rfl

theorem slow_apply (n : Fin 512) (j : Fin 1024) : sSlow x0 x1 (ix2 n j) = slowRow (qq x0 n) (sel x0 x1 n) j := by
  rw [slow_eq, shapeCast_self, truncf_apply, addf_apply, addf_apply, put_apply, put_apply, put_apply, atV_apply, atV_apply, atV_apply,
    nw_apply, nw_apply, nw_apply, pay16_apply, pay3_apply, pay4_apply, pay6_apply, pay7_apply, pay9_apply, pay10_apply]
  rfl

/-! ## The first layer -/

theorem pay13_apply (x4 : Vec Ideal S256x512 .f32) (x3 : Vec Ideal S1x512x1024 .f32) (o : Fin 256) (m : Fin 1024) :
    k0_pay13 (F := Ideal) x4 x3 (ix2 o m) = ∑ c : Fin 512, x4 (ix2 o c) * x3 (ix3 (0 : Fin 1) c m) := by
  unfold k0_pay13
  rw [shapeCast_self, truncf_apply]
  refine (Ideal.matmul_plain_apply (M := 256) (K := 512) (N := 1024) none _ _ _ o m).trans ?_
  rw [constant_apply, ofBits_zero, zero_add]
  refine Finset.sum_congr rfl fun c _ => ?_
  rw [truncf_apply, truncf_apply, shapeCast_self]
  exact congrArg (_ * ·) (shapeCast_1ab_ab_apply x3 _ c m)

theorem pay31_apply (x5 : Vec Ideal S256x256 .f32) (x2 : Vec Ideal S1x256x512 .f32) (z : Vec Ideal S256x1024 .bf16) (s : Vec Ideal S512x1024 .bf16)
    (o : Fin 256) (n : Fin 512) :
    k0_pay31 (F := Ideal) x5 x2 z s (ix2 o n)
      = (∑ c : Fin 256, x5 (ix2 o c) * x2 (ix3 (0 : Fin 1) c n)) + ∑ m : Fin 1024, z (ix2 o m) * s (ix2 n m) := by
  unfold k0_pay31
  rw [addf_apply]
  congr 1
  · refine (Ideal.matmul_plain_apply (M := 256) (K := 256) (N := 512) none _ _ _ o n).trans ?_
    rw [constant_apply, ofBits_zero, zero_add]
    refine Finset.sum_congr rfl fun c _ => ?_
    rw [truncf_apply, truncf_apply, shapeCast_self]
    exact congrArg (_ * ·) (shapeCast_1ab_ab_apply x2 _ c n)
  · refine (Ideal.matmul_transposedRhs_apply (M := 256) (K := 1024) (N := 512) none _ _ _ o n).trans ?_
    rw [constant_apply, ofBits_zero, zero_add]

theorem pay32_apply (x5 : Vec Ideal S256x256 .f32) (x2 : Vec Ideal S1x256x512 .f32) (z : Vec Ideal S256x1024 .bf16) (s : Vec Ideal S512x1024 .bf16)
    (o : Fin 256) (n : Fin 512) : k0_pay32 (F := Ideal) x5 x2 z s (ix3 (0 : Fin 1) o n) = k0_pay31 x5 x2 z s (ix2 o n) := by
  unfold k0_pay32
  exact (shapeCast_ab_1ab_apply _ _ (0 : Fin 1) o n)

theorem pay1_sum (y : FVec Ideal S256x512 .f32) (st : Vec Ideal S256x2 .f32) (o : Fin 256) :
    k0_pay1 (F := Ideal) y st (ix2 o (0 : Fin 2)) = st (ix2 o (0 : Fin 2)) + ∑ n : Fin 512, y (ix2 o n) := by
  unfold k0_pay1
  rw [addf_apply, shapeCast_self, concat_0]
  exact congrArg (_ + ·) (sum_col _ _ _ _ _ o)

theorem pay1_sq (y : FVec Ideal S256x512 .f32) (st : Vec Ideal S256x2 .f32) (o : Fin 256) :
    k0_pay1 (F := Ideal) y st (ix2 o (1 : Fin 2)) = st (ix2 o (1 : Fin 2)) + ∑ n : Fin 512, y (ix2 o n) * y (ix2 o n) := by
  unfold k0_pay1
  rw [addf_apply, shapeCast_self, concat_1]
  exact congrArg (_ + ·) (sum_col _ _ _ _ _ o)

theorem pay33_apply (i : S256x2.Idx) : k0_pay33 (F := Ideal) i = 0 := e0

/-! ## The weights of a block of reals -/

/-- Where the targets and sources are reals, and each row is ordered and has either no tie after the first or a third weight above the
threshold, the block's weights are those of the three nearest sources, on either path. -/
theorem sMat_apply (q : Fin 512 → ℝ) (d : Fin 512 → Fin 1024 → ℝ) (σ : Fin 512 → Fin 1024 → Fin 1024)
    (hq : ∀ n, qq x0 n = q n) (hd : ∀ n j, sel x0 x1 n j = d n j) (hσ : ∀ n, IsOrder (d n) (σ n))
    (ht : ∀ n, (d n (σ n 1) < d n (σ n 2) ∧ d n (σ n 2) < d n (σ n 3)) ∨ tau < rnw (q n) (d n) (σ n) 2) (n : Fin 512) (j : Fin 1024) :
    sMat x0 x1 (ix2 n j) = (nearRow (q n) (d n) (σ n) j : EReal) := by
  have hd' : ∀ n, sel x0 x1 n = fun j => (d n j : EReal) := fun n => funext (hd n)
  unfold sMat
  split
  · rw [slow_apply, hq, hd', slowRow_eq (hσ n)]
  · rename_i hs
    rw [fast_apply, hq, hd']
    choose r hr h1 hn using fun n => fastRow_eq (hσ n) (q n)
    rw [hr, hn n ?_ (ht n)]
    rw [slow_iff] at hs
    simp only [hq, hd', hr, coe_sum] at hs
    rw [← EReal.coe_sub] at hs
    have hs' : (∑ n, ∑ j, r n j) - 512 ≤ tau := by
      have := not_lt.1 hs
      exact EReal.coe_le_coe_iff.1 (le_trans (le_max_left _ _) this)
    have e : (∑ n, ∑ j, r n j) - 512 = ∑ n, (∑ j, r n j - 1) := by
      rw [Finset.sum_sub_distrib]; simp
    have := Finset.single_le_sum (f := fun n => ∑ j, r n j - 1) (s := Finset.univ) (fun n _ => sub_nonneg.2 (h1 n)) (Finset.mem_univ n)
    rw [← e] at this
    linarith

end Cert.ReadA

end
-- ==== Proof.RegBase.lean ====
/-
  Sums over a grid's points and a block's columns, as sums over the batches and the columns of the array.
-/
module

public import proofs.«01_k».proof.Proof.ReadBase

@[expose] public section

noncomputable section

namespace Cert.RegBase

/-- A sum over the rows of `a` blocks of `s` is the sum over the blocks and each one's rows. -/
theorem sum_blocks {a s N : ℕ} (hN : a * s = N) (f : ℕ → EReal) :
    ∑ q : Fin a, ∑ k : Fin s, f (q.val * s + k.val) = ∑ n : Fin N, f n.val := by
  subst hN
  rw [← Fintype.sum_prod_type', ← Equiv.sum_comp finProdFinEquiv (fun n : Fin (a * s) => f n.val)]
  refine Finset.sum_congr rfl fun x _ => ?_
  congr 1
  show x.1.val * s + x.2.val = x.2.val + s * x.1.val
  rw [Nat.mul_comm, Nat.add_comm]

/-- A grid of `B` batches by `a` blocks, each of `s` columns: the sum over all is the sum over the batches and columns. -/
theorem sum_grid {B a s T N : ℕ} (ha : 0 < a) (hT : B * a = T) (hN : a * s = N) (f : ℕ → ℕ → EReal) :
    ∑ t : Fin T, ∑ k : Fin s, f (t.val / a) (t.val % a * s + k.val) = ∑ b : Fin B, ∑ n : Fin N, f b.val n.val := by
  rw [← sum_blocks hT (fun t => ∑ k : Fin s, f (t / a) (t % a * s + k.val))]
  refine Finset.sum_congr rfl fun b _ => ?_
  rw [← sum_blocks hN (fun n => f b.val n)]
  refine Finset.sum_congr rfl fun q _ => Finset.sum_congr rfl fun k _ => ?_
  rw [Nat.mul_comm b.val a, Nat.mul_add_div ha, Nat.mul_add_mod, Nat.div_eq_of_lt q.isLt, Nat.mod_eq_of_lt q.isLt, Nat.add_zero]

/-- A running sum, one term added at each step, is the sum of the terms so far. -/
theorem sum_upto {T : ℕ} (g : Fin T → EReal) (r : (n : ℕ) → n < T → EReal) (h0 : ∀ h, r 0 h = 0 + g ⟨0, h⟩)
    (hs : ∀ n h, r (n + 1) h = r n (Nat.lt_of_succ_lt h) + g ⟨n + 1, h⟩) (n : ℕ) (h : n < T) :
    r n h = ∑ i : Fin (n + 1), g ⟨i.val, by omega⟩ := by
  induction n with
  | zero => rw [h0]; simp
  | succ n ih => exact (hs n h).trans ((congrArg (· + g ⟨n + 1, h⟩) (ih _)).trans (Fin.sum_univ_castSucc (fun i : Fin (n + 1 + 1) => g ⟨i.val, by omega⟩)).symm)

end Cert.RegBase

end
-- ==== Proof.RegB.lean ====
/-
  The second call's arrays: the second layer at every element, and the sums of it and of its squares over each channel.
-/
module

public import proofs.«01_k».proof.Proof.IdealRun
public import proofs.«01_k».proof.Proof.ReadB
public import proofs.«01_k».proof.Proof.RegBase
public import Idealize.ShloMosaic.Lib.Pipeline.ValueKit

@[expose] public section

set_option maxRecDepth 16384

noncomputable section

namespace Cert.RegB

open Cert.KernelIdeal Cert.KernelIdeal.Gen Cert.Consts Cert.ReadBase Cert.ReadB
open Idealize
open Idealize.ShloMosaic hiding ix1 ix2 ix3 ix4 ix5 eq_ix1 eq_ix2 eq_ix3
open Idealize.ShloMosaic.ValueIdx
open Idealize.ShloMosaic.TcCoe Idealize.ShloMosaic.Tactic
open Idealize.ShloMosaic.Pipeline (Dat Cfg Window)

variable (W : Dev nD → Valuation τ sig (Elt Ideal))

/-- A layer over a rectified one, element by element, -/
def linOf (w : S256x256.Idx → EReal) (st : S256x2.Idx → EReal) (g b : S256x1.Idx → EReal) (y : S8x256x4096.Idx → EReal) :
    S8x256x4096.Idx → EReal := fun i =>
  ∑ k : Fin 256, w (ix2 (i 1) k) * act (st (ix2 k (0 : Fin 2))) (st (ix2 k (1 : Fin 2))) (g (ix2 k (0 : Fin 1))) (b (ix2 k (0 : Fin 1)))
    (y (ix3 (i 0) k (i 2)))

/-- the one the call leaves, -/
def lin (c : Dev nD) : S8x256x4096.Idx → EReal :=
  linOf (W c main_arg7) (W c main_v6_1) (W c main_v2) (W c main_v3) (W c main_v6_0)

/-- the sums of a layer over each channel, and of its squares. -/
def stats (y : S8x256x4096.Idx → EReal) : S256x2.Idx → EReal := fun i =>
  if (i 1).val = 0 then ∑ b : Fin 8, ∑ n : Fin 4096, y (ix3 b (i 0) n)
  else ∑ b : Fin 8, ∑ n : Fin 4096, y (ix3 b (i 0) n) * y (ix3 b (i 0) n)

theorem idx0 : ∀ t : Fin cfg1.N, win1_0.index t 0 = t.val / 4 ∧ win1_0.index t 1 = 0 ∧ win1_0.index t 2 = t.val % 4 := by decide +kernel
theorem idx1 : ∀ t : Fin cfg1.N, win1_1.index t 0 = 0 ∧ win1_1.index t 1 = 0 := by decide +kernel
theorem idx2 : ∀ t : Fin cfg1.N, win1_2.index t 0 = 0 ∧ win1_2.index t 1 = 0 := by decide +kernel
theorem idx3 : ∀ t : Fin cfg1.N, win1_3.index t 0 = 0 ∧ win1_3.index t 1 = 0 := by decide +kernel
theorem idx4 : ∀ t : Fin cfg1.N, win1_4.index t 0 = 0 ∧ win1_4.index t 1 = 0 := by decide +kernel
theorem idx5 : ∀ t : Fin cfg1.N, win1_5.index t 0 = t.val / 4 ∧ win1_5.index t 1 = 0 ∧ win1_5.index t 2 = t.val % 4 := by decide +kernel
theorem idx6 : ∀ t : Fin cfg1.N, win1_6.index t 0 = 0 ∧ win1_6.index t 1 = 0 := by decide +kernel

/-- The batch of a point, -/
def bat (t : Fin cfg1.N) : Fin 8 := ⟨t.val / 4, by have h : t.val < 32 := t.isLt; omega⟩
/-- and the array's column under a column of its block. -/
def col (t : Fin cfg1.N) (n : Fin 1024) : Fin 4096 := ⟨t.val % 4 * 1024 + n.val, by have := n.isLt; omega⟩

theorem blk1 (c : Dev nD) (t : Fin cfg1.N) (o : Fin 256) (k : Fin 2) : PassB.blk W c 1 t (ix2 o k) = W c main_v6_1 (ix2 o k) := by
  obtain ⟨h0, h1⟩ := idx1 t
  blk_ext [PassB.blk, h0, h1]

theorem blk2 (c : Dev nD) (t : Fin cfg1.N) (o : Fin 256) : PassB.blk W c 2 t (ix2 o (0 : Fin 1)) = W c main_v2 (ix2 o (0 : Fin 1)) := by
  obtain ⟨h0, h1⟩ := idx2 t
  blk_ext [PassB.blk, h0, h1]

theorem blk3 (c : Dev nD) (t : Fin cfg1.N) (o : Fin 256) : PassB.blk W c 3 t (ix2 o (0 : Fin 1)) = W c main_v3 (ix2 o (0 : Fin 1)) := by
  obtain ⟨h0, h1⟩ := idx3 t
  blk_ext [PassB.blk, h0, h1]

theorem blk4 (c : Dev nD) (t : Fin cfg1.N) (o k : Fin 256) : PassB.blk W c 4 t (ix2 o k) = W c main_arg7 (ix2 o k) := by
  obtain ⟨h0, h1⟩ := idx4 t
  blk_ext [PassB.blk, h0, h1]

theorem blk0 (c : Dev nD) (t : Fin cfg1.N) (o : Fin 256) (n : Fin 1024) :
    PassB.blk W c 0 t (ix3 (0 : Fin 1) o n) = W c main_v6_0 (ix3 (bat t) o (col t n)) := by
  obtain ⟨h0, h1, h2⟩ := idx0 t
  blk_ext [PassB.blk, h0, h1, h2, bat, col]

theorem emb5 (t : Fin cfg1.N) (o : Fin 256) (n : Fin 1024) :
    ((win1_5.blk t).view.emb (ix3 (0 : Fin 1) o n) : S8x256x4096.Idx) = ix3 (bat t) o (col t n) := by
  obtain ⟨g0, g1, g2⟩ := idx5 t
  funext ax
  apply Fin.ext
  match ax with
  | ⟨0, _⟩ => blk_simp [g0]; simp [bat]
  | ⟨1, _⟩ => blk_simp [g1]
  | ⟨2, _⟩ => blk_simp [g2]; rfl

theorem emb6 (t : Fin cfg1.N) (o : Fin 256) (k : Fin 2) : ((win1_6.blk t).view.emb (ix2 o k) : S256x2.Idx) = ix2 o k := by
  obtain ⟨g0, g1⟩ := idx6 t
  funext ax
  apply Fin.ext
  match ax with
  | ⟨0, _⟩ => blk_simp [g0]
  | ⟨1, _⟩ => blk_simp [g1]

theorem lay_apply (c : Dev nD) (t : Fin cfg1.N) (o : Fin 256) (n : Fin 1024) :
    PassB.lay W c t (ix2 o n) = lin W c (ix3 (bat t) o (col t n)) := by
  unfold PassB.lay lin linOf
  refine (pay3_apply _ _ _ _ _ o n).trans (Finset.sum_congr rfl fun k _ => ?_)
  rw [blk0, blk1, blk1, blk2, blk3, blk4]

theorem arr_lin (c : Dev nD) : (PassB.dat W c).arrAt 5 cfg1.N = lin W c := by
  refine (PassB.dat W c).arrAt_eq_of_covers 5 _ (by decide +kernel) fun t hf y => ?_
  blk_simp
  rw [PassB.after_5]
  obtain ⟨a, o, n, rfl⟩ : ∃ (a : Fin 1) (o : Fin 256) (n : Fin 1024), y = ix3 a o n := ⟨_, _, _, eq_ix3 y⟩
  obtain rfl : a = 0 := Subsingleton.elim _ _
  refine (pay4_apply _ _ _ _ _ o n).trans ?_
  rw [emb5]
  exact lay_apply W c t o n

/-- The sum of a function of the layer over all points and columns is that over the batches and columns of the array. -/
theorem sum_points (f : EReal → EReal) (y : S8x256x4096.Idx → EReal) (o : Fin 256) :
    ∑ t : Fin cfg1.N, ∑ n : Fin 1024, f (y (ix3 (bat t) o (col t n))) = ∑ b : Fin 8, ∑ n : Fin 4096, f (y (ix3 b o n)) := by
  have e := RegBase.sum_grid (B := 8) (a := 4) (s := 1024) (T := 32) (N := 4096) (by decide) rfl rfl
    (fun b n => if h : b < 8 ∧ n < 4096 then f (y (ix3 (⟨b, h.1⟩ : Fin 8) o (⟨n, h.2⟩ : Fin 4096))) else 0)
  refine (Finset.sum_congr rfl fun t _ => Finset.sum_congr rfl fun n _ => ?_).trans
    (e.trans (Finset.sum_congr rfl fun b _ => Finset.sum_congr rfl fun n _ => ?_))
  · rw [dif_pos ⟨(bat t).isLt, (col t n).isLt⟩]; rfl
  · rw [dif_pos ⟨b.isLt, n.isLt⟩]

theorem acc_sum (c : Dev nD) (o : Fin 256) (n : ℕ) (h : n < cfg1.N) :
    PassB.acc W c n h (ix2 o (0 : Fin 2)) = ∑ i : Fin (n + 1), ∑ k : Fin 1024, PassB.lay W c ⟨i.val, by omega⟩ (ix2 o k) := by
  refine RegBase.sum_upto (fun t => ∑ k : Fin 1024, PassB.lay W c t (ix2 o k)) (fun n h => PassB.acc W c n h (ix2 o (0 : Fin 2))) ?_ ?_ n h
  · intro h; exact (pay2_sum _ _ o).trans (by rw [pay1_apply])
  · intro n h; exact pay2_sum _ _ o

theorem acc_sq (c : Dev nD) (o : Fin 256) (n : ℕ) (h : n < cfg1.N) :
    PassB.acc W c n h (ix2 o (1 : Fin 2))
      = ∑ i : Fin (n + 1), ∑ k : Fin 1024, PassB.lay W c ⟨i.val, by omega⟩ (ix2 o k) * PassB.lay W c ⟨i.val, by omega⟩ (ix2 o k) := by
  refine RegBase.sum_upto (fun t => ∑ k : Fin 1024, PassB.lay W c t (ix2 o k) * PassB.lay W c t (ix2 o k))
    (fun n h => PassB.acc W c n h (ix2 o (1 : Fin 2))) ?_ ?_ n h
  · intro h; exact (pay2_sq _ _ o).trans (by rw [pay1_apply])
  · intro n h; exact pay2_sq _ _ o

theorem arr_stats (c : Dev nD) : (PassB.dat W c).arrAt 6 cfg1.N = stats (lin W c) := by
  refine (PassB.dat W c).arrAt_eq_of_covers 6 _ (by decide +kernel) fun t hf y => ?_
  blk_simp
  rw [PassB.after_6]
  obtain ⟨o, k, rfl⟩ : ∃ (o : Fin 256) (k : Fin 2), y = ix2 o k := ⟨_, _, eq_ix2 y⟩
  rw [emb6]
  have ht : t = ⟨31, by decide⟩ := by
    have h := (flush1_6 t).mp hf
    have h' : t.val < 32 := t.isLt
    exact Fin.ext (by show t.val = 31; omega)
  subst ht
  match k with
  | ⟨0, _⟩ =>
    refine (acc_sum W c o 31 _).trans ?_
    refine (Finset.sum_congr rfl fun i _ => Finset.sum_congr rfl fun n _ => lay_apply W c _ o n).trans ?_
    exact sum_points (fun x => x) (lin W c) o
  | ⟨1, _⟩ =>
    refine (acc_sq W c o 31 _).trans ?_
    refine (Finset.sum_congr rfl fun i _ => Finset.sum_congr rfl fun n _ => by rw [lay_apply W c _ o n]).trans ?_
    exact sum_points (fun x => x * x) (lin W c) o

end Cert.RegB

end
-- ==== Proof.RegA.lean ====
/-
  The first call's arrays, where the targets and sources are reals and every target's sources are ordered: the first layer
  at every element, its interpolated half the sources' products weighed by the target's three nearest sources, and the sums
  of it and of its squares over each channel.
-/
module

public import proofs.«01_k».proof.Proof.IdealRun
public import proofs.«01_k».proof.Proof.ReadA
public import proofs.«01_k».proof.Proof.RegB

@[expose] public section

set_option maxRecDepth 16384

noncomputable section

namespace Cert.RegA

open Cert.KernelIdeal Cert.KernelIdeal.Gen Cert.Consts Cert.ReadBase Cert.ReadA Cert.Rows
open Idealize
open Idealize.ShloMosaic hiding ix1 ix2 ix3 ix4 ix5 eq_ix1 eq_ix2 eq_ix3
open Idealize.ShloMosaic.ValueIdx
open Idealize.ShloMosaic.TcCoe Idealize.ShloMosaic.Tactic
open Idealize.ShloMosaic.Pipeline (Dat Cfg Window)

variable (W : Dev nD → Valuation τ sig (Elt Ideal))

theorem idx0 : ∀ t : Fin cfg0.N, win0_0.index t 0 = t.val / 8 ∧ win0_0.index t 1 = 0 ∧ win0_0.index t 2 = t.val % 8 := by decide +kernel
theorem idx1 : ∀ t : Fin cfg0.N, win0_1.index t 0 = t.val / 8 ∧ win0_1.index t 1 = 0 ∧ win0_1.index t 2 = 0 := by decide +kernel
theorem idx2 : ∀ t : Fin cfg0.N, win0_2.index t 0 = t.val / 8 ∧ win0_2.index t 1 = 0 ∧ win0_2.index t 2 = t.val % 8 := by decide +kernel
theorem idx3 : ∀ t : Fin cfg0.N, win0_3.index t 0 = t.val / 8 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = t.val / 8 ∧ win0_6.index t 1 = 0 ∧ win0_6.index t 2 = t.val % 8 := by decide +kernel
theorem idx7 : ∀ t : Fin cfg0.N, win0_7.index t 0 = 0 ∧ win0_7.index t 1 = 0 := by decide +kernel

/-- The batch of a point, -/
def bat (t : Fin cfg0.N) : Fin 8 := ⟨t.val / 8, by have h : t.val < 64 := t.isLt; omega⟩
/-- and the array's column under a column of its block. -/
def col (t : Fin cfg0.N) (n : Fin 512) : Fin 4096 := ⟨t.val % 8 * 512 + n.val, by have := n.isLt; omega⟩

theorem blk0 (c : Dev nD) (t : Fin cfg0.N) (k : Fin 3) (n : Fin 512) :
    PassA.blk W c 0 t (ix3 (0 : Fin 1) k n) = W c main_arg0 (ix3 (bat t) k (col t n)) := by
  obtain ⟨h0, h1, h2⟩ := idx0 t
  blk_ext [PassA.blk, h0, h1, h2, bat, col]

theorem blk1 (c : Dev nD) (t : Fin cfg0.N) (k : Fin 3) (n : Fin 1024) :
    PassA.blk W c 1 t (ix3 (0 : Fin 1) k n) = W c main_arg1 (ix3 (bat t) k n) := by
  obtain ⟨h0, h1, h2⟩ := idx1 t
  blk_ext [PassA.blk, h0, h1, h2, bat, col]

theorem blk2 (c : Dev nD) (t : Fin cfg0.N) (k : Fin 256) (n : Fin 512) :
    PassA.blk W c 2 t (ix3 (0 : Fin 1) k n) = W c main_arg2 (ix3 (bat t) k (col t n)) := by
  obtain ⟨h0, h1, h2⟩ := idx2 t
  blk_ext [PassA.blk, h0, h1, h2, bat, col]

theorem blk3 (c : Dev nD) (t : Fin cfg0.N) (k : Fin 512) (n : Fin 1024) :
    PassA.blk W c 3 t (ix3 (0 : Fin 1) k n) = W c main_arg3 (ix3 (bat t) k n) := by
  obtain ⟨h0, h1, h2⟩ := idx3 t
  blk_ext [PassA.blk, h0, h1, h2, bat, col]

theorem blk4 (c : Dev nD) (t : Fin cfg0.N) (o : Fin 256) (k : Fin 512) : PassA.blk W c 4 t (ix2 o k) = W c main_v0 (ix2 o k) := by
  obtain ⟨h0, h1⟩ := idx4 t
  blk_ext [PassA.blk, h0, h1]

theorem blk5 (c : Dev nD) (t : Fin cfg0.N) (o k : Fin 256) : PassA.blk W c 5 t (ix2 o k) = W c main_v1 (ix2 o k) := by
  obtain ⟨h0, h1⟩ := idx5 t
  blk_ext [PassA.blk, h0, h1]

theorem emb6 (t : Fin cfg0.N) (o : Fin 256) (n : Fin 512) :
    ((win0_6.blk t).view.emb (ix3 (0 : Fin 1) o n) : S8x256x4096.Idx) = ix3 (bat t) o (col t n) := by
  obtain ⟨g0, g1, g2⟩ := idx6 t
  funext ax
  apply Fin.ext
  match ax with
  | ⟨0, _⟩ => blk_simp [g0]; simp [bat]
  | ⟨1, _⟩ => blk_simp [g1]
  | ⟨2, _⟩ => blk_simp [g2]; rfl

theorem emb7 (t : Fin cfg0.N) (o : Fin 256) (k : Fin 2) : ((win0_7.blk t).view.emb (ix2 o k) : S256x2.Idx) = ix2 o k := by
  obtain ⟨g0, g1⟩ := idx7 t
  funext ax
  apply Fin.ext
  match ax with
  | ⟨0, _⟩ => blk_simp [g0]
  | ⟨1, _⟩ => blk_simp [g1]

/-- The targets' parts, the selection scores and the orders of reals that the targets and sources give. -/
structure Near (X0 : S8x3x4096.Idx → EReal) (X1 : S8x3x1024.Idx → EReal) where
  q : Fin 8 → Fin 4096 → ℝ
  d : Fin 8 → Fin 4096 → Fin 1024 → ℝ
  σ : Fin 8 → Fin 4096 → Fin 1024 → Fin 1024
  hq : ∀ b n, ∑ k : Fin 3, X0 (ix3 b k n) * X0 (ix3 b k n) * 1 = (q b n : EReal)
  hd : ∀ b n j, ((1 / 2 : ℝ) : EReal) * (∑ k : Fin 3, X1 (ix3 b k j) * X1 (ix3 b k j))
    - ∑ k : Fin 3, X0 (ix3 b k n) * X1 (ix3 b k j) = (d b n j : EReal)
  hσ : ∀ b n, IsOrder (d b n) (σ b n)
  ht : ∀ b n, (d b n (σ b n 1) < d b n (σ b n 2) ∧ d b n (σ b n 2) < d b n (σ b n 3)) ∨ tau < rnw (q b n) (d b n) (σ b n) 2

variable {W}

/-- The first layer, element by element, from the weights' two halves, the two features and the orders, -/
def linOf (wa : S256x512.Idx → EReal) (wb : S256x256.Idx → EReal) (df : S8x256x4096.Idx → EReal) (sf : S8x512x1024.Idx → EReal)
    (near : Fin 8 → Fin 4096 → Fin 1024 → ℝ) : S8x256x4096.Idx → EReal := fun i =>
  (∑ k : Fin 256, wb (ix2 (i 1) k) * df (ix3 (i 0) k (i 2)))
    + ∑ j : Fin 1024, (∑ k : Fin 512, wa (ix2 (i 1) k) * sf (ix3 (i 0) k j)) * (near (i 0) (i 2) j : EReal)

/-- the weight of each source at each target, -/
def Near.near {X0 : S8x3x4096.Idx → EReal} {X1 : S8x3x1024.Idx → EReal} (N : Near X0 X1) (b : Fin 8) (n : Fin 4096) : Fin 1024 → ℝ :=
  nearRow (N.q b n) (N.d b n) (N.σ b n)

/-- and the layer the call leaves. -/
def lin (c : Dev nD) (N : Near (W c main_arg0) (W c main_arg1)) : S8x256x4096.Idx → EReal :=
  linOf (W c main_v0) (W c main_v1) (W c main_arg2) (W c main_arg3) N.near

theorem lay_apply (c : Dev nD) (N : Near (W c main_arg0) (W c main_arg1)) (t : Fin cfg0.N) (o : Fin 256) (n : Fin 512) :
    PassA.lay W c t (ix2 o n) = lin c N (ix3 (bat t) o (col t n)) := by
  unfold PassA.lay lin linOf Near.near
  refine (pay31_apply _ _ _ _ o n).trans (congrArg₂ (· + ·) (Finset.sum_congr rfl fun k _ => ?_) (Finset.sum_congr rfl fun j _ => ?_))
  · rw [blk5, blk2]
  · refine congrArg₂ (· * ·) ?_ ?_
    · refine (pay13_apply _ _ o j).trans (Finset.sum_congr rfl fun k _ => ?_)
      rw [blk4, blk3]
    · refine sMat_apply _ _ (fun n => N.q (bat t) (col t n)) (fun n => N.d (bat t) (col t n)) (fun n => N.σ (bat t) (col t n))
        (fun n => ?_) (fun n j => ?_) (fun n => N.hσ _ _) (fun n => N.ht _ _) n j
      · rw [← N.hq]; unfold qq
        exact Finset.sum_congr rfl fun k _ => by rw [blk0]
      · rw [← N.hd]; unfold sel
        exact congrArg₂ (fun a b => ((1 / 2 : ℝ) : EReal) * a - b) (Finset.sum_congr rfl fun k _ => by rw [blk1])
          (Finset.sum_congr rfl fun k _ => by rw [blk0, blk1])

theorem arr_lin (c : Dev nD) (N : Near (W c main_arg0) (W c main_arg1)) : (PassA.dat W c).arrAt 6 cfg0.N = lin c N := by
  refine (PassA.dat W c).arrAt_eq_of_covers 6 _ (by decide +kernel) fun t hf y => ?_
  blk_simp
  rw [PassA.after_6]
  obtain ⟨a, o, n, rfl⟩ : ∃ (a : Fin 1) (o : Fin 256) (n : Fin 512), y = ix3 a o n := ⟨_, _, _, eq_ix3 y⟩
  obtain rfl : a = 0 := Subsingleton.elim _ _
  refine (pay32_apply _ _ _ _ o n).trans ?_
  rw [emb6]
  exact lay_apply c N t o n

/-- The sum of a function of the layer over all points and columns is that over the batches and columns of the array. -/
theorem sum_points (f : EReal → EReal) (y : S8x256x4096.Idx → EReal) (o : Fin 256) :
    ∑ t : Fin cfg0.N, ∑ n : Fin 512, f (y (ix3 (bat t) o (col t n))) = ∑ b : Fin 8, ∑ n : Fin 4096, f (y (ix3 b o n)) := by
  have e := RegBase.sum_grid (B := 8) (a := 8) (s := 512) (T := 64) (N := 4096) (by decide) rfl rfl
    (fun b n => if h : b < 8 ∧ n < 4096 then f (y (ix3 (⟨b, h.1⟩ : Fin 8) o (⟨n, h.2⟩ : Fin 4096))) else 0)
  refine (Finset.sum_congr rfl fun t _ => Finset.sum_congr rfl fun n _ => ?_).trans
    (e.trans (Finset.sum_congr rfl fun b _ => Finset.sum_congr rfl fun n _ => ?_))
  · rw [dif_pos ⟨(bat t).isLt, (col t n).isLt⟩]; rfl
  · rw [dif_pos ⟨b.isLt, n.isLt⟩]

theorem acc_sum (c : Dev nD) (o : Fin 256) (n : ℕ) (h : n < cfg0.N) :
    PassA.acc W c n h (ix2 o (0 : Fin 2)) = ∑ i : Fin (n + 1), ∑ k : Fin 512, PassA.lay W c ⟨i.val, by omega⟩ (ix2 o k) := by
  refine RegBase.sum_upto (fun t => ∑ k : Fin 512, PassA.lay W c t (ix2 o k)) (fun n h => PassA.acc W c n h (ix2 o (0 : Fin 2))) ?_ ?_ n h
  · intro h; exact (pay1_sum _ _ o).trans (by rw [pay33_apply])
  · intro n h; exact pay1_sum _ _ o

theorem acc_sq (c : Dev nD) (o : Fin 256) (n : ℕ) (h : n < cfg0.N) :
    PassA.acc W c n h (ix2 o (1 : Fin 2))
      = ∑ i : Fin (n + 1), ∑ k : Fin 512, PassA.lay W c ⟨i.val, by omega⟩ (ix2 o k) * PassA.lay W c ⟨i.val, by omega⟩ (ix2 o k) := by
  refine RegBase.sum_upto (fun t => ∑ k : Fin 512, PassA.lay W c t (ix2 o k) * PassA.lay W c t (ix2 o k))
    (fun n h => PassA.acc W c n h (ix2 o (1 : Fin 2))) ?_ ?_ n h
  · intro h; exact (pay1_sq _ _ o).trans (by rw [pay33_apply])
  · intro n h; exact pay1_sq _ _ o

theorem arr_stats (c : Dev nD) (N : Near (W c main_arg0) (W c main_arg1)) : (PassA.dat W c).arrAt 7 cfg0.N = RegB.stats (lin c N) := by
  refine (PassA.dat W c).arrAt_eq_of_covers 7 _ (by decide +kernel) fun t hf y => ?_
  blk_simp
  rw [PassA.after_7]
  obtain ⟨o, k, rfl⟩ : ∃ (o : Fin 256) (k : Fin 2), y = ix2 o k := ⟨_, _, eq_ix2 y⟩
  rw [emb7]
  have ht : t = ⟨63, by decide⟩ := by
    have h := (flush0_7 t).mp hf
    have h' : t.val < 64 := t.isLt
    exact Fin.ext (by show t.val = 63; omega)
  subst ht
  match k with
  | ⟨0, _⟩ =>
    refine (acc_sum c o 63 _).trans ?_
    refine (Finset.sum_congr rfl fun i _ => Finset.sum_congr rfl fun n _ => lay_apply c N _ o n).trans ?_
    exact sum_points (fun x => x) (lin c N) o
  | ⟨1, _⟩ =>
    refine (acc_sq c o 63 _).trans ?_
    refine (Finset.sum_congr rfl fun i _ => Finset.sum_congr rfl fun n _ => by rw [lay_apply c N _ o n]).trans ?_
    exact sum_points (fun x => x * x) (lin c N) o

end Cert.RegA

end
-- ==== Proof.RefLin.lean ====
/-
  The first layer of both programs at an index, over real arrays: the reference joins the weighed features to the target's
  own and applies the whole weight, the kernel applies the weight's two halves apart and weighs the sources afterwards.
-/
module

public import proofs.«01_k».proof.Proof.RefGather
public import proofs.«01_k».proof.Proof.RegA

@[expose] public section

set_option maxRecDepth 16384

noncomputable section

namespace Cert.RefNear

open Cert.ReferenceIdeal Cert.ReferenceIdeal.Gen Cert.ReferenceIdeal.Read Cert.Rows Cert.Consts Cert.Order
open Idealize
open Idealize.ShloMosaic hiding ix1 ix2 ix3 ix4 ix5 eq_ix1 eq_ix2 eq_ix3
open Idealize.ShloMosaic.ValueIdx

variable (x0 : S8x3x4096.Idx → EReal) (x1 : S8x3x1024.Idx → EReal) (x2 : S8x256x4096.Idx → EReal) (x3 : S8x512x1024.Idx → EReal)
  (x4 : S256x768.Idx → EReal)
  (r0 : S8x3x4096.Idx → ℝ) (r1 : S8x3x1024.Idx → ℝ) (r2 : S8x256x4096.Idx → ℝ) (r3 : S8x512x1024.Idx → ℝ) (r4 : S256x768.Idx → ℝ)
  (h0 : ∀ i, x0 i = (r0 i : EReal)) (h1 : ∀ i, x1 i = (r1 i : EReal)) (h2 : ∀ i, x2 i = (r2 i : EReal))
  (h3 : ∀ i, x3 i = (r3 i : EReal)) (h4 : ∀ i, x4 i = (r4 i : EReal))

/-- A column of the weight's first part, -/
def colA (c : Fin 512) : Fin 768 := Fin.castAdd 256 c
/-- and of its second. -/
def colB (c : Fin 256) : Fin 768 := Fin.natAdd 512 c

theorem sum_cols {M : Type*} [AddCommMonoid M] (f : Fin 768 → M) : ∑ k, f k = ∑ c, f (colA c) + ∑ c, f (colB c) :=
  Fin.sum_univ_add (a := 512) (b := 256) f

/-- The first layer over the reals. -/
def layer1 (b : Fin 8) (o : Fin 256) (n : Fin 4096) : ℝ :=
  (∑ c : Fin 512, near3 x0 x1 r0 r1 r3 b c n * r4 (ix2 o (colA c))) + ∑ c : Fin 256, r2 (ix3 b c n) * r4 (ix2 o (colB c))

theorem v32_left (b : Fin 8) (c : Fin 512) (n : Fin 4096) :
    val_main_v32 (F := Ideal) x0 x1 x2 x3 (ix3 b (colA c) n) = val_main_v31 (F := Ideal) x0 x1 x3 (ix3 b c n) := by
  unfold val_main_v32
  refine concatenate_pair_apply_left (t := S8x768x4096) (s₁ := S8x512x4096) (s₂ := S8x256x4096) 1 (val_main_v31 (F := Ideal) x0 x1 x3) x2
    concatenates_S8x512x4096_S8x256x4096_S8x768x4096_d1 (ix3 b (colA c) n) rfl (ix3 b c n) fun a => ?_
  match a with
  | ⟨0, _⟩ => rfl
  | ⟨1, _⟩ => rfl
  | ⟨2, _⟩ => rfl

theorem v32_right (b : Fin 8) (c : Fin 256) (n : Fin 4096) :
    val_main_v32 (F := Ideal) x0 x1 x2 x3 (ix3 b (colB c) n) = x2 (ix3 b c n) := by
  unfold val_main_v32
  refine concatenate_pair_apply_right (t := S8x768x4096) (s₁ := S8x512x4096) (s₂ := S8x256x4096) 1 (val_main_v31 (F := Ideal) x0 x1 x3) x2
    concatenates_S8x512x4096_S8x256x4096_S8x768x4096_d1 (ix3 b (colB c) n) rfl rfl (ix3 b c n) (fun a ha => ?_)
    (show c.val + 512 = 512 + c.val from Nat.add_comm _ _)
  match a with
  | ⟨0, _⟩ => rfl
  | ⟨1, _⟩ => exact absurd rfl ha
  | ⟨2, _⟩ => rfl

include h0 h1 h2 h3 h4 in
theorem v34_apply (b : Fin 8) (o : Fin 256) (n : Fin 4096) :
    val_main_v34 (F := Ideal) x0 x1 x2 x3 x4 (ix3 b o n) = (layer1 x0 x1 r0 r1 r2 r3 r4 b o n : EReal) := by
  rw [val_main_v34_apply]
  refine (congrArg (val_main_v33 (F := Ideal) x0 x1 x2 x3 x4) (eq_ix3 (idx_main_v34 (ix3 b o n)))).trans ?_
  show val_main_v33 (F := Ideal) x0 x1 x2 x3 x4 (ix3 b n o) = _
  rw [val_main_v33_apply]
  have e : ∀ k : Fin 768, val_main_v32 (F := Ideal) x0 x1 x2 x3 (lidx_main_v33 (ix3 b n o) k) * x4 (ridx_main_v33 (ix3 b n o) k)
      = val_main_v32 (F := Ideal) x0 x1 x2 x3 (ix3 b k n) * x4 (ix2 o k) := fun k =>
    congrArg₂ (fun i i' => val_main_v32 (F := Ideal) x0 x1 x2 x3 i * x4 i') (eq_ix3 (lidx_main_v33 (ix3 b n o) k))
      (eq_ix2 (ridx_main_v33 (ix3 b n o) k))
  refine (Finset.sum_congr rfl fun k _ => e k).trans ?_
  rw [sum_cols]
  have eA : ∀ c : Fin 512, val_main_v32 (F := Ideal) x0 x1 x2 x3 (ix3 b (colA c) n) * x4 (ix2 o (colA c))
      = ((near3 x0 x1 r0 r1 r3 b c n * r4 (ix2 o (colA c)) : ℝ) : EReal) := fun c => by
    rw [v32_left, v31_apply x0 x1 x3 r0 r1 r3 h0 h1 h3, h4, EReal.coe_mul]
  have eB : ∀ c : Fin 256, val_main_v32 (F := Ideal) x0 x1 x2 x3 (ix3 b (colB c) n) * x4 (ix2 o (colB c))
      = ((r2 (ix3 b c n) * r4 (ix2 o (colB c)) : ℝ) : EReal) := fun c => by
    rw [v32_right, h2, h4, EReal.coe_mul]
  rw [Finset.sum_congr rfl fun c _ => eA c, Finset.sum_congr rfl fun c _ => eB c, coe_sum, coe_sum, ← EReal.coe_add]
  rfl

/-- A row of numbers weighed by the near row is its three nearest, weighed. -/
theorem sum_nearRow (q : ℝ) (d : Fin 1024 → ℝ) (s : Fin 1024 → Fin 1024) (f : Fin 1024 → ℝ) :
    ∑ j, f j * nearRow q d s j = ∑ k : Fin 3, f (s (up k)) * rnw q d s (up k) := by
  have e : ∀ p : Fin 1024, ∀ w : ℝ, ∑ j, f j * (if j = p then w else 0) = f p * w := fun p w => by
    rw [Finset.sum_eq_single p (fun j _ hj => by rw [if_neg hj, mul_zero]) (fun h => absurd (Finset.mem_univ _) h), if_pos rfl]
  unfold nearRow
  simp only [mul_add, Finset.sum_add_distrib]
  rw [e, e, e, Fin.sum_univ_three]
  rfl

include h2 h3 h4 in
/-- The kernel's first layer is the same. -/
theorem linOf_apply (wa : Cert.KernelIdeal.S256x512.Idx → EReal) (wb : S256x256.Idx → EReal) (hwa : ∀ o c, wa (ix2 o c) = x4 (ix2 o (colA c)))
    (hwb : ∀ o c, wb (ix2 o c) = x4 (ix2 o (colB c))) (b : Fin 8) (o : Fin 256) (n : Fin 4096) :
    RegA.linOf wa wb x2 x3 (fun b n => nearRow (qR r0 b n) (dR r0 r1 b n) (σ x0 x1 b n)) (ix3 b o n)
      = (layer1 x0 x1 r0 r1 r2 r3 r4 b o n : EReal) := by
  show (∑ k : Fin 256, wb (ix2 o k) * x2 (ix3 b k n))
    + ∑ j : Fin 1024, (∑ k : Fin 512, wa (ix2 o k) * x3 (ix3 b k j)) * (nearRow (qR r0 b n) (dR r0 r1 b n) (σ x0 x1 b n) j : EReal) = _
  have eB : ∀ c : Fin 256, wb (ix2 o c) * x2 (ix3 b c n) = ((r2 (ix3 b c n) * r4 (ix2 o (colB c)) : ℝ) : EReal) := fun c => by
    rw [hwb, h2, h4, ← EReal.coe_mul, mul_comm]
  have eA : ∀ (j : Fin 1024) (c : Fin 512), wa (ix2 o c) * x3 (ix3 b c j) = ((r4 (ix2 o (colA c)) * r3 (ix3 b c j) : ℝ) : EReal) :=
    fun j c => by rw [hwa, h3, h4, EReal.coe_mul]
  have eJ : ∀ j : Fin 1024, (∑ k : Fin 512, wa (ix2 o k) * x3 (ix3 b k j)) * (nearRow (qR r0 b n) (dR r0 r1 b n) (σ x0 x1 b n) j : EReal)
      = (((∑ k : Fin 512, r4 (ix2 o (colA k)) * r3 (ix3 b k j)) * nearRow (qR r0 b n) (dR r0 r1 b n) (σ x0 x1 b n) j : ℝ) : EReal) :=
    fun j => by rw [Finset.sum_congr rfl fun c _ => eA j c, coe_sum, EReal.coe_mul]
  rw [Finset.sum_congr rfl fun c _ => eB c, coe_sum, Finset.sum_congr rfl fun j _ => eJ j, coe_sum, ← EReal.coe_add]
  refine congrArg _ ?_
  unfold layer1
  rw [add_comm]
  congr 1
  simp only [Finset.sum_mul]
  rw [Finset.sum_comm]
  refine Finset.sum_congr rfl fun c _ => ?_
  have e := sum_nearRow (qR r0 b n) (dR r0 r1 b n) (σ x0 x1 b n) (fun j => r3 (ix3 b c j))
  unfold near3
  rw [← e, Finset.sum_mul]
  refine Finset.sum_congr rfl fun j _ => ?_
  ring

end Cert.RefNear

end
-- ==== Proof.RefBn.lean ====
/-
  A normalized and rectified layer of the reference at an index, for a layer of reals: the mean and the variance of a
  channel over every batch and point, the layer less its mean over the root of the variance, scaled, shifted and rectified.
  And the same from the channel's two sums as the kernel has it.
-/
module

public import proofs.«01_k».proof.Proof.Consts
public import proofs.«01_k».proof.Proof.RegB
public import proofs.«01_k».proof.Proof.Gen.ReferenceIdeal.Read

@[expose] public section

set_option maxRecDepth 16384

noncomputable section

namespace Cert.RefBn

open Cert.ReferenceIdeal Cert.ReferenceIdeal.Gen Cert.Consts
open Idealize
open Idealize.ShloMosaic hiding ix1 ix2 ix3 ix4 ix5 eq_ix1 eq_ix2 eq_ix3
open Idealize.ShloMosaic.ValueIdx

/-- A channel's sum over every batch and point, -/
def chan (x : FVec Ideal S8x256x4096 .f32) : FVec Ideal S256 .f32 :=
  Host.reduceAdd x (constant S_ .f32 0x00000000#32) reducesTo_S8x256x4096_S256_d0_2 h_S_
/-- spread over the layer's middle axis, -/
def mid (v : FVec Ideal S256 .f32) : FVec Ideal S1x256x1 .f32 := broadcastInDim S1x256x1 ![1] bcast_S256_S1x256x1_1 v
/-- and over the whole layer. -/
def full (v : FVec Ideal S1x256x1 .f32) : FVec Ideal S8x256x4096 .f32 :=
  broadcastInDim S8x256x4096 ![0, 1, 2] bcast_S1x256x1_S8x256x4096_0_1_2 v
/-- A constant over the middle axis. -/
def splat (w : BitVec 32) : FVec Ideal S1x256x1 .f32 := broadcastInDim S1x256x1 ![] bcast_S_S1x256x1 (constant S_ .f32 w)

/-- The mean, -/
def meanT (x : FVec Ideal S8x256x4096 .f32) : FVec Ideal S1x256x1 .f32 := Host.divf (mid (chan x)) (splat 0x47000000#32)
/-- the count the variance divides by, -/
def countT : FVec Ideal S_ .f32 := subf (constant S_ .f32 0x47000000#32) (sitofp .f32 (constantI S_ 32 0#32))
/-- the layer less its mean, -/
def cen (x : FVec Ideal S8x256x4096 .f32) : FVec Ideal S8x256x4096 .f32 := subf x (full (meanT x))
/-- the variance, -/
def varT (x : FVec Ideal S8x256x4096 .f32) : FVec Ideal S1x256x1 .f32 :=
  select (broadcastInDim S1x256x1 ![] bcast_S_S1x256x1 (cmpf .ogt countT (constant S_ .f32 0x00000000#32)))
    (Host.divf (mid (chan (mulf (cen x) (cen x)))) (broadcastInDim S1x256x1 ![] bcast_S_S1x256x1 countT)) (splat 0x7FC00000#32)
/-- and the layer normalized, scaled, shifted and rectified. -/
def bn (x : FVec Ideal S8x256x4096 .f32) (g b : FVec Ideal S256 .f32) : FVec Ideal S8x256x4096 .f32 :=
  maximumf (addf (mulf (Host.divf (cen x) (full (Host.sqrt (addf (varT x) (splat 0x3727C5AC#32))))) (full (mid g))) (full (mid b)))
    (broadcastInDim S8x256x4096 ![] bcast_S_S8x256x4096 (constant S_ .f32 0x00000000#32))

theorem v53_eq (x0 : S8x3x4096.Idx → EReal) (x1 : S8x3x1024.Idx → EReal) (x2 : S8x256x4096.Idx → EReal) (x3 : S8x512x1024.Idx → EReal)
    (x4 : S256x768.Idx → EReal) (x5 x6 : S256.Idx → EReal) :
    Read.val_main_v53 (F := Ideal) x0 x1 x2 x3 x4 x5 x6 = bn (Read.val_main_v34 (F := Ideal) x0 x1 x2 x3 x4) x5 x6 := rfl

theorem v74_eq (x0 : S8x3x4096.Idx → EReal) (x1 : S8x3x1024.Idx → EReal) (x2 : S8x256x4096.Idx → EReal) (x3 : S8x512x1024.Idx → EReal)
    (x4 : S256x768.Idx → EReal) (x5 x6 : S256.Idx → EReal) (x7 : S256x256.Idx → EReal) (x8 x9 : S256.Idx → EReal) :
    Read.val_main_v74 (F := Ideal) x0 x1 x2 x3 x4 x5 x6 x7 x8 x9 = bn (Read.val_main_v55 (F := Ideal) x0 x1 x2 x3 x4 x5 x6 x7) x8 x9 := rfl

theorem drop_val (i : S8x256x4096.Idx) : ((reducesTo_S8x256x4096_S256_d0_2).drop i 0).val = (i 1).val := rfl

theorem chan_apply (x : FVec Ideal S8x256x4096 .f32) (o : Fin 256) : chan x (ix1 o) = ∑ b : Fin 8, ∑ n : Fin 4096, x (ix3 b o n) := by
  unfold chan
  rw [hostReduceAdd_apply]
  unfold Ideal.hostReduceAdd
  have hz : (constant S_ .f32 0x00000000#32 : FVec Ideal S_ .f32) (Shape.Idx.first h_S_) = (0 : EReal) := ofBits_zero
  rw [hz, zero_add, ← Fintype.sum_prod_type' (f := fun b n => x (ix3 b o n))]
  refine Finset.sum_nbij' (fun i => ((i 0, i 2) : Fin 8 × Fin 4096)) (fun p => ix3 p.1 o p.2) (fun _ _ => Finset.mem_univ _) (fun p _ => ?_)
    (fun i hi => ?_) (fun _ _ => rfl) (fun i hi => ?_)
  · refine Finset.mem_filter.2 ⟨Finset.mem_univ _, ?_⟩
    funext a
    match a with
    | ⟨0, _⟩ => exact Fin.ext (drop_val _)
  all_goals
    have e : (i 1).val = o.val := (drop_val i).symm.trans (congrArg Fin.val (congrFun (Finset.mem_filter.1 hi).2 0))
    have ei : ix3 (i 0) o (i 2) = i := by
      funext a
      match a with
      | ⟨0, _⟩ => rfl
      | ⟨1, _⟩ => exact Fin.ext e.symm
      | ⟨2, _⟩ => rfl
  · exact ei
  · exact congrArg x ei.symm

theorem mid_apply (v : FVec Ideal S256 .f32) (a : Fin 1) (o : Fin 256) (e : Fin 1) : mid v (ix3 a o e) = v (ix1 o) :=
  broadcastInDim_apply _ bcast_S256_S1x256x1_1 v (ix3 a o e) (ix1 o) fun a => match a with
    | ⟨0, _⟩ => by show o.val = if (256 : Nat) = 1 then 0 else o.val; rw [if_neg (by decide)]

theorem full_apply (v : FVec Ideal S1x256x1 .f32) (b : Fin 8) (o : Fin 256) (n : Fin 4096) : full v (ix3 b o n) = v (ix3 0 o 0) :=
  broadcastInDim_apply _ bcast_S1x256x1_S8x256x4096_0_1_2 v (ix3 b o n) (ix3 0 o 0) fun a => match a with
    | ⟨0, _⟩ => rfl
    | ⟨1, _⟩ => by show o.val = if (256 : Nat) = 1 then 0 else o.val; rw [if_neg (by decide)]
    | ⟨2, _⟩ => rfl

theorem splat_apply (w : BitVec 32) (i : S1x256x1.Idx) : splat w i = Ideal.ofBits .f32 w := rfl

/-! ## Over the reals -/

variable (y : Fin 8 → Fin 256 → Fin 4096 → ℝ)

/-- The mean of a channel, -/
def mR (o : Fin 256) : ℝ := (∑ b, ∑ n, y b o n) / 32768
/-- its variance, -/
def vR (o : Fin 256) : ℝ := (∑ b, ∑ n, (y b o n - mR y o) * (y b o n - mR y o)) / 32768
/-- and the layer normalized. -/
def nR (b : Fin 8) (o : Fin 256) (n : Fin 4096) : ℝ := (y b o n - mR y o) / √(vR y o + veps)

theorem vR_nonneg (o : Fin 256) : 0 ≤ vR y o :=
  div_nonneg (Finset.sum_nonneg fun _ _ => Finset.sum_nonneg fun _ _ => mul_self_nonneg _) (by norm_num)

theorem coe_sum2 (f : Fin 8 → Fin 4096 → ℝ) : ∑ b, ∑ n, ((f b n : ℝ) : EReal) = ((∑ b, ∑ n, f b n : ℝ) : EReal) := by
  rw [← coe_sum]
  exact Finset.sum_congr rfl fun b _ => coe_sum _ _

variable {y} {x : FVec Ideal S8x256x4096 .f32} (hx : ∀ b o n, x (ix3 b o n) = (y b o n : EReal))

include hx

theorem meanT_apply (o : Fin 256) (a e : Fin 1) : meanT x (ix3 a o e) = (mR y o : EReal) := by
  show Ideal.div (mid (chan x) (ix3 a o e)) (splat 0x47000000#32 (ix3 a o e)) = _
  rw [mid_apply, splat_apply, ofBits_count, chan_apply]
  rw [Finset.sum_congr rfl fun b _ => Finset.sum_congr rfl fun n _ => hx b o n, coe_sum2, div_coe_coe _ _ (by norm_num)]
  rfl

theorem cen_apply (b : Fin 8) (o : Fin 256) (n : Fin 4096) : cen x (ix3 b o n) = ((y b o n - mR y o : ℝ) : EReal) := by
  show x (ix3 b o n) - full (meanT x) (ix3 b o n) = _
  rw [full_apply, meanT_apply hx, hx, EReal.coe_sub]

omit hx in
theorem countT_apply (i : S_.Idx) : countT i = ((32768 : ℝ) : EReal) := by
  show Ideal.ofBits .f32 0x47000000#32 - (((0#32 : BitVec 32).toInt : ℝ) : EReal) = _
  rw [ofBits_count, ← EReal.coe_sub]
  norm_num

theorem varT_apply (o : Fin 256) (a e : Fin 1) : varT x (ix3 a o e) = (vR y o : EReal) := by
  have hc : (cmpf .ogt countT (constant S_ .f32 0x00000000#32) : IVec S_ 1) = fun _ => 1#1 := by
    funext i
    show BitVec.ofBool (decide (countT i > Ideal.ofBits .f32 0x00000000#32)) = _
    rw [countT_apply, ofBits_zero, decide_eq_true]
    · rfl
    · exact EReal.coe_pos.2 (by norm_num)
  have hs : ∀ (A B : FVec Ideal S1x256x1 .f32) (i : S1x256x1.Idx),
      select (broadcastInDim S1x256x1 ![] bcast_S_S1x256x1 (fun _ => 1#1 : IVec S_ 1)) A B i = A i := fun _ _ _ => rfl
  unfold varT
  rw [hc, hs]
  show Ideal.div (mid (chan (mulf (cen x) (cen x))) (ix3 a o e)) (countT _) = _
  rw [mid_apply, countT_apply, chan_apply]
  have e2 : ∀ b n, (mulf (cen x) (cen x) : FVec Ideal S8x256x4096 .f32) (ix3 b o n)
      = (((y b o n - mR y o) * (y b o n - mR y o) : ℝ) : EReal) := fun b n => by
    show cen x (ix3 b o n) * cen x (ix3 b o n) = _
    rw [cen_apply hx, EReal.coe_mul]
  rw [Finset.sum_congr rfl fun b _ => Finset.sum_congr rfl fun n _ => e2 b n, coe_sum2, div_coe_coe _ _ (by norm_num)]
  rfl

theorem root_pos (o : Fin 256) : 0 < √(vR y o + veps) := Real.sqrt_pos.2 (add_pos_of_nonneg_of_pos (vR_nonneg y o) veps_pos)

/-- The reference's layer, with a real gain and any shift. -/
theorem bn_apply (g b' : FVec Ideal S256 .f32) (gr : Fin 256 → ℝ) (hg : ∀ o, g (ix1 o) = (gr o : EReal)) (b : Fin 8) (o : Fin 256)
    (n : Fin 4096) : bn x g b' (ix3 b o n) = max (((nR y b o n * gr o : ℝ) : EReal) + b' (ix1 o)) 0 := by
  show max (Ideal.div (cen x (ix3 b o n)) (full (Host.sqrt (addf (varT x) (splat 0x3727C5AC#32))) (ix3 b o n)) * full (mid g) (ix3 b o n)
    + full (mid b') (ix3 b o n)) (Ideal.ofBits .f32 0x00000000#32) = _
  rw [full_apply, full_apply, full_apply, mid_apply, mid_apply, cen_apply hx, ofBits_zero, hg]
  have es : (Host.sqrt (addf (varT x) (splat 0x3727C5AC#32)) : FVec Ideal S1x256x1 .f32) (ix3 0 o 0) = (√(vR y o + veps) : EReal) := by
    show Ideal.sqrt (varT x (ix3 0 o 0) + splat 0x3727C5AC#32 (ix3 0 o 0)) = _
    rw [varT_apply hx, splat_apply, ofBits_veps, ← EReal.coe_add, Ideal.sqrt_coe]
    exact if_neg (not_lt.2 (add_nonneg (vR_nonneg y o) veps_pos.le))
  rw [es, div_coe_coe _ _ (Real.sqrt_pos.2 (add_pos_of_nonneg_of_pos (vR_nonneg y o) veps_pos)).ne', ← EReal.coe_mul]
  rfl

/-! ## From a channel's two sums -/

omit hx in
/-- The variance from the two sums. -/
theorem var_eq (y : Fin 8 → Fin 256 → Fin 4096 → ℝ) (o : Fin 256) :
    (∑ b, ∑ n, y b o n * y b o n) * (1 / 32768) - mR y o * mR y o = vR y o := by
  have hs : (∑ b : Fin 8, ∑ n : Fin 4096, y b o n) = 32768 * mR y o := by unfold mR; ring
  have hcard : (∑ b : Fin 8, ∑ n : Fin 4096, mR y o * mR y o) = 32768 * (mR y o * mR y o) := by
    simp only [Finset.sum_const, Finset.card_univ, Fintype.card_fin, nsmul_eq_mul]
    push_cast
    ring
  have e : ∑ b, ∑ n, (y b o n - mR y o) * (y b o n - mR y o)
      = (∑ b, ∑ n, y b o n * y b o n) - 2 * mR y o * (∑ b : Fin 8, ∑ n : Fin 4096, y b o n) + ∑ b : Fin 8, ∑ n : Fin 4096, mR y o * mR y o := by
    rw [Finset.mul_sum, ← Finset.sum_sub_distrib, ← Finset.sum_add_distrib]
    refine Finset.sum_congr rfl fun b _ => ?_
    rw [Finset.mul_sum, ← Finset.sum_sub_distrib, ← Finset.sum_add_distrib]
    refine Finset.sum_congr rfl fun n _ => ?_
    ring
  unfold vR
  rw [e, hs, hcard]
  ring

/-- The kernel's layer from the two sums, with a real gain and any shift. -/
theorem act_eq (g : ℝ) (bb : EReal) (b : Fin 8) (o : Fin 256) (n : Fin 4096) :
    ReadB.act (∑ b : Fin 8, ∑ n : Fin 4096, x (ix3 b o n)) (∑ b : Fin 8, ∑ n : Fin 4096, x (ix3 b o n) * x (ix3 b o n)) (g : EReal) bb
      (x (ix3 b o n)) = max (((nR y b o n * g : ℝ) : EReal) + bb) 0 := by
  have e1 : ∑ b : Fin 8, ∑ n : Fin 4096, x (ix3 b o n) = ((∑ b, ∑ n, y b o n : ℝ) : EReal) := by
    rw [Finset.sum_congr rfl fun b _ => Finset.sum_congr rfl fun n _ => hx b o n, coe_sum2]
  have e2 : ∑ b : Fin 8, ∑ n : Fin 4096, x (ix3 b o n) * x (ix3 b o n) = ((∑ b, ∑ n, y b o n * y b o n : ℝ) : EReal) := by
    rw [← coe_sum2]
    refine Finset.sum_congr rfl fun b _ => Finset.sum_congr rfl fun n _ => ?_
    rw [hx, EReal.coe_mul]
  have em : ReadB.mean ((∑ b, ∑ n, y b o n : ℝ) : EReal) = (mR y o : EReal) := by
    unfold ReadB.mean
    rw [← EReal.coe_mul]
    unfold mR
    congr 1
    ring
  have hp : 0 < vR y o + veps := add_pos_of_nonneg_of_pos (vR_nonneg y o) veps_pos
  have ef : ReadB.fac ((∑ b, ∑ n, y b o n : ℝ) : EReal) ((∑ b, ∑ n, y b o n * y b o n : ℝ) : EReal) (g : EReal)
      = ((g * (√(vR y o + veps))⁻¹ : ℝ) : EReal) := by
    unfold ReadB.fac
    rw [em, ← EReal.coe_mul, ← EReal.coe_mul, ← EReal.coe_sub, ← EReal.coe_add, var_eq, Ideal.rsqrt_coe, if_neg (not_lt.2 hp.le),
      if_neg hp.ne', ← EReal.coe_mul]
  rw [e1, e2, hx]
  unfold ReadB.act
  rw [em, ef, ← EReal.coe_mul, ← EReal.coe_mul, sub_eq_add_neg, ← EReal.coe_neg, add_comm bb, ← add_assoc, ← EReal.coe_add]
  congr 3
  unfold nR
  ring

end Cert.RefBn

end
-- ==== Proof.Layer2.lean ====
/-
  The second layer of both programs at an index: the first normalized, scaled, shifted and rectified, then the second weight
  applied; and the result from it.
-/
module

public import proofs.«01_k».proof.Proof.RefLin
public import proofs.«01_k».proof.Proof.RefBn

@[expose] public section

set_option maxRecDepth 16384

noncomputable section

namespace Cert.Layer2

open Cert.ReferenceIdeal Cert.ReferenceIdeal.Gen Cert.ReferenceIdeal.Read Cert.Consts Cert.RefNear Cert.RefBn
open Idealize
open Idealize.ShloMosaic hiding ix1 ix2 ix3 ix4 ix5 eq_ix1 eq_ix2 eq_ix3
open Idealize.ShloMosaic.ValueIdx

variable (r5 r6 : S256.Idx → ℝ) (r7 : S256x256.Idx → ℝ) (y1 : Fin 8 → Fin 256 → Fin 4096 → ℝ)

/-- The first layer rectified, -/
def hid (b : Fin 8) (k : Fin 256) (n : Fin 4096) : ℝ := max (nR y1 b k n * r5 (ix1 k) + r6 (ix1 k)) 0
/-- and the second layer. -/
def layer2 (b : Fin 8) (o : Fin 256) (n : Fin 4096) : ℝ := ∑ k : Fin 256, r7 (ix2 o k) * hid r5 r6 y1 b k n

theorem hid_coe (b : Fin 8) (k : Fin 256) (n : Fin 4096) :
    max (((nR y1 b k n * r5 (ix1 k) : ℝ) : EReal) + (r6 (ix1 k) : EReal)) 0 = (hid r5 r6 y1 b k n : EReal) := by
  rw [← EReal.coe_add, ← EReal.coe_zero, max_coe]
  rfl

/-- The kernel's second layer, from its first. -/
theorem kernel_apply (x7 : S256x256.Idx → EReal) (h7 : ∀ i, x7 i = (r7 i : EReal)) (lin1 : S8x256x4096.Idx → EReal)
    (h : ∀ b o n, lin1 (ix3 b o n) = (y1 b o n : EReal)) (g s : Cert.KernelIdeal.S256x1.Idx → EReal)
    (hg : ∀ k, g (ix2 k 0) = (r5 (ix1 k) : EReal)) (hs : ∀ k, s (ix2 k 0) = (r6 (ix1 k) : EReal)) (b : Fin 8) (o : Fin 256) (n : Fin 4096) :
    RegB.linOf x7 (RegB.stats lin1) g s lin1 (ix3 b o n) = (layer2 r5 r6 r7 y1 b o n : EReal) := by
  show ∑ k : Fin 256, x7 (ix2 o k) * ReadB.act (∑ b : Fin 8, ∑ n : Fin 4096, lin1 (ix3 b k n))
    (∑ b : Fin 8, ∑ n : Fin 4096, lin1 (ix3 b k n) * lin1 (ix3 b k n)) (g (ix2 k 0)) (s (ix2 k 0)) (lin1 (ix3 b k n)) = _
  refine (Finset.sum_congr rfl fun k _ => ?_).trans (coe_sum _ _)
  rw [hg, hs, act_eq (x := lin1) (y := y1) h, hid_coe, h7, EReal.coe_mul]

variable (x0 : S8x3x4096.Idx → EReal) (x1 : S8x3x1024.Idx → EReal) (x2 : S8x256x4096.Idx → EReal) (x3 : S8x512x1024.Idx → EReal)
  (x4 : S256x768.Idx → EReal) (x5 x6 : S256.Idx → EReal) (x7 : S256x256.Idx → EReal) (x8 x9 : S256.Idx → EReal)

/-- The reference's, from its first. -/
theorem v55_apply (h5 : ∀ i, x5 i = (r5 i : EReal)) (h6 : ∀ i, x6 i = (r6 i : EReal)) (h7 : ∀ i, x7 i = (r7 i : EReal))
    (h : ∀ b o n, val_main_v34 (F := Ideal) x0 x1 x2 x3 x4 (ix3 b o n) = (y1 b o n : EReal)) (b : Fin 8) (o : Fin 256) (n : Fin 4096) :
    val_main_v55 (F := Ideal) x0 x1 x2 x3 x4 x5 x6 x7 (ix3 b o n) = (layer2 r5 r6 r7 y1 b o n : EReal) := by
  rw [val_main_v55_apply]
  refine (congrArg (val_main_v54 (F := Ideal) x0 x1 x2 x3 x4 x5 x6 x7) (eq_ix3 (idx_main_v55 (ix3 b o n)))).trans ?_
  show val_main_v54 (F := Ideal) x0 x1 x2 x3 x4 x5 x6 x7 (ix3 b n o) = _
  rw [val_main_v54_apply]
  refine (Finset.sum_congr rfl fun k _ => ?_).trans (coe_sum _ _)
  refine (congrArg₂ (fun i i' => val_main_v53 (F := Ideal) x0 x1 x2 x3 x4 x5 x6 i * x7 i') (eq_ix3 (lidx_main_v54 (ix3 b n o) k))
    (eq_ix2 (ridx_main_v54 (ix3 b n o) k))).trans ?_
  show val_main_v53 (F := Ideal) x0 x1 x2 x3 x4 x5 x6 (ix3 b k n) * x7 (ix2 o k) = _
  rw [v53_eq, bn_apply h x5 x6 (fun k => r5 (ix1 k)) (fun o => h5 _), h6, hid_coe, h7, mul_comm, EReal.coe_mul]

/-- The reference's result from its second layer. -/
theorem v74_apply (r8 : S256.Idx → ℝ) (h8 : ∀ i, x8 i = (r8 i : EReal)) (y2 : Fin 8 → Fin 256 → Fin 4096 → ℝ)
    (h : ∀ b o n, val_main_v55 (F := Ideal) x0 x1 x2 x3 x4 x5 x6 x7 (ix3 b o n) = (y2 b o n : EReal)) (b : Fin 8) (o : Fin 256)
    (n : Fin 4096) : val_main_v74 (F := Ideal) x0 x1 x2 x3 x4 x5 x6 x7 x8 x9 (ix3 b o n)
      = max (((nR y2 b o n * r8 (ix1 o) : ℝ) : EReal) + x9 (ix1 o)) 0 := by
  rw [v74_eq, bn_apply h x8 x9 (fun k => r8 (ix1 k)) (fun o => h8 _)]

end Cert.Layer2

end
-- ==== Proof.Pre.lean ====
/-
  What the precondition says: nine of the arrays are real, and at every target either the second, third and fourth nearest
  sources lie at different distances or the third weight is above the tolerance.
-/
module

public import Idealize.ShloMosaic.Lib.ReduceAll
public import proofs.«01_k».proof.Proof.Gen.Pre_ties_show
public import proofs.«01_k».proof.Proof.RefNear

@[expose] public section

set_option maxRecDepth 16384

noncomputable section

namespace Cert.Pre

open Cert.Pre_ties_show Cert.Pre_ties_show.Facts Cert.Rows Cert.Consts Cert.RefNear
open Idealize.ShloMosaic Idealize.ShloMosaic.ValueIdx

/-! ## A finite array -/

section Finite
variable {s : Shape} {axes : List (Fin s.rank)}

/-- The magnitudes of an array below the positive infinity, all together. -/
def below (x : FVec Ideal s .f32) (hb : S_.BroadcastsInDim s (![] : Fin 0 → Fin s.rank)) (hr : s.ReducesTo axes S_) (hS : 0 < S_.numel) :
    IVec S_ 1 :=
  Host.reduce IntOp.andi (cmpf .olt (Host.absf x) (broadcastInDim s ![] hb (constant S_ .f32 0x7F800000#32))) (constantI S_ 1 1#1) hr hS

theorem real_of_abs {a : EReal} (h : max a (-a) < ⊤) : ∃ r : ℝ, a = (r : EReal) := by
  induction a with
  | bot => exact absurd h (by simp)
  | top => exact absurd h (by simp)
  | coe r => exact ⟨r, rfl⟩

theorem ofBool_one {p : Prop} [Decidable p] (h : BitVec.ofBool (decide p) = 1#1) : p := by
  by_contra hn
  rw [decide_eq_false hn] at h
  exact absurd h (by decide)

instance : Subsingleton S_.Idx := ⟨fun a b => funext fun i => i.elim0⟩

theorem below_real {x : FVec Ideal s .f32} {hb : S_.BroadcastsInDim s (![] : Fin 0 → Fin s.rank)} {hr : s.ReducesTo axes S_}
    {hS : 0 < S_.numel} {j : S_.Idx} (h : below x hb hr hS j = 1#1) (i : s.Idx) : ∃ r : ℝ, (x i : EReal) = (r : EReal) := by
  have e := Host.reduce_andi_all _ _ hr hS j h i
  have e' : BitVec.ofBool (decide (max (x i : EReal) (-(x i)) < Ideal.ofBits .f32 0x7F800000#32)) = 1#1 := e
  have hlt := ofBool_one e'
  rw [ofBits_inf] at hlt
  exact real_of_abs hlt

end Finite

/-! ## The tie condition -/

variable [Cert.Pre_ties_show.Facts]

/-- One of the four least distances, from the negated ones taken. -/
def least (k : ℕ) (h : S8x4096x4.Slices ![0, 0, k] S8x4096x1) (v : FVec Ideal S8x4096x4 .f32) : FVec Ideal S8x4096 .f32 :=
  Host.negf (shapeCast S8x4096 (extractStridedSlice S8x4096x1 ![0, 0, k] v h) shapeCasts_S8x4096x1_S8x4096)
/-- Its weight before the three are made to sum to one. -/
def inv (s : FVec Ideal S8x4096 .f32) : FVec Ideal S8x4096 .f32 :=
  Host.divf (broadcastInDim S8x4096 ![] bcast_S_S8x4096 (constant S_ .f32 0x3F800000#32))
    (maximumf (maximumf s (broadcastInDim S8x4096 ![] bcast_S_S8x4096 (constant S_ .f32 0x00000000#32)))
      (broadcastInDim S8x4096 ![] bcast_S_S8x4096 (constant S_ .f32 0x2EDBE6FF#32)))
/-- The tie condition of every target. -/
def ties (v : FVec Ideal S8x4096x4 .f32) : IVec S8x4096 1 :=
  ori (andi (cmpf .olt (least 1 slices_S8x4096x4_S8x4096x1_0_0_1 v) (least 2 slices_S8x4096x4_S8x4096x1_0_0_2 v))
      (cmpf .olt (least 2 slices_S8x4096x4_S8x4096x1_0_0_2 v) (least 3 slices_S8x4096x4_S8x4096x1_0_0_3 v)))
    (cmpf .ogt (Host.divf (inv (least 2 slices_S8x4096x4_S8x4096x1_0_0_2 v))
        (addf (addf (inv (least 0 slices_S8x4096x4_S8x4096x1_0_0_0 v)) (inv (least 1 slices_S8x4096x4_S8x4096x1_0_0_1 v)))
          (inv (least 2 slices_S8x4096x4_S8x4096x1_0_0_2 v))))
      (broadcastInDim S8x4096 ![] bcast_S_S8x4096 (constant S_ .f32 0x3A83126F#32)))

variable (x0 : S8x3x4096.Idx → EReal) (x1 : S8x3x1024.Idx → EReal) (x2 : S8x256x4096.Idx → EReal) (x3 : S8x512x1024.Idx → EReal)
  (x4 : S256x768.Idx → EReal) (x5 x6 : S256.Idx → EReal) (x7 : S256x256.Idx → EReal) (x8 x9 : S256.Idx → EReal)

/-- The four greatest negated distances. -/
def four : FVec Ideal S8x4096x4 .f32 :=
  (Host.topK S8x4096x4 2 (FloatOps.cmpfTotal .gt) (Cert.ReferenceIdeal.Read.val_main_v13 (F := Ideal) x0 x1) sliceFits_S8x4096x1024_S8x4096x4).1

/-- The precondition's parts. -/
def parts : IVec S_ 1 :=
  andi (Host.reduce IntOp.andi (ties (four x0 x1)) (constantI S_ 1 1#1) reducesTo_S8x4096_S_d0_1 h_S_)
    (andi (andi (andi (andi (andi (andi (andi (andi (andi (constantI S_ 1 1#1)
      (below x0 bcast_S_S8x3x4096 reducesTo_S8x3x4096_S_d0_1_2 h_S_))
      (below x1 bcast_S_S8x3x1024 reducesTo_S8x3x1024_S_d0_1_2 h_S_))
      (below x2 bcast_S_S8x256x4096 reducesTo_S8x256x4096_S_d0_1_2 h_S_))
      (below x3 bcast_S_S8x512x1024 reducesTo_S8x512x1024_S_d0_1_2 h_S_))
      (below x4 bcast_S_S256x768 reducesTo_S256x768_S_d0_1 h_S_))
      (below x5 bcast_S_S256 reducesTo_S256_S_d0 h_S_))
      (below x6 bcast_S_S256 reducesTo_S256_S_d0 h_S_))
      (below x7 bcast_S_S256x256 reducesTo_S256x256_S_d0_1 h_S_))
      (below x8 bcast_S_S256 reducesTo_S256_S_d0 h_S_))

theorem fn_eq : Cert.Pre_ties_show.fn (F := Ideal) x0 x1 x2 x3 x4 x5 x6 x7 x8 x9 = parts x0 x1 x2 x3 x4 x5 x6 x7 x8 := rfl

/-- The arrays the precondition holds finite, as reals, and the tie conditions. -/
theorem reals (h : Cert.Pre_ties_show.fn (F := Ideal) x0 x1 x2 x3 x4 x5 x6 x7 x8 x9 = fun _ => 1#1) :
    (∀ i, ties (four x0 x1) i = 1#1) ∧ (∃ r : S8x3x4096.Idx → ℝ, ∀ i, x0 i = (r i : EReal)) ∧ (∃ r : S8x3x1024.Idx → ℝ, ∀ i, x1 i = (r i : EReal))
      ∧ (∃ r : S8x256x4096.Idx → ℝ, ∀ i, x2 i = (r i : EReal)) ∧ (∃ r : S8x512x1024.Idx → ℝ, ∀ i, x3 i = (r i : EReal))
      ∧ (∃ r : S256x768.Idx → ℝ, ∀ i, x4 i = (r i : EReal)) ∧ (∃ r : S256.Idx → ℝ, ∀ i, x5 i = (r i : EReal))
      ∧ (∃ r : S256.Idx → ℝ, ∀ i, x6 i = (r i : EReal)) ∧ (∃ r : S256x256.Idx → ℝ, ∀ i, x7 i = (r i : EReal))
      ∧ (∃ r : S256.Idx → ℝ, ∀ i, x8 i = (r i : EReal)) := by
  rw [fn_eq] at h
  have j : S_.Idx := fun a => a.elim0
  have e := congrFun h j
  obtain ⟨ht, e⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e, e0⟩ := IntOp.andi_eq_one.1 e
  exact ⟨Host.reduce_andi_all _ _ _ _ j ht, Classical.skolem.1 (below_real e0), Classical.skolem.1 (below_real e1),
    Classical.skolem.1 (below_real e2), Classical.skolem.1 (below_real e3), Classical.skolem.1 (below_real e4),
    Classical.skolem.1 (below_real e5), Classical.skolem.1 (below_real e6), Classical.skolem.1 (below_real e7),
    Classical.skolem.1 (below_real e8)⟩

/-! ## The tie condition over the reals -/

variable (r0 : S8x3x4096.Idx → ℝ) (r1 : S8x3x1024.Idx → ℝ) (h0 : ∀ i, x0 i = (r0 i : EReal)) (h1 : ∀ i, x1 i = (r1 i : EReal))

/-- The distance of the source at a place of the order. -/
def dist (b : Fin 8) (n : Fin 4096) (k : Fin 1024) : ℝ := 2 * dR r0 r1 b n (σ x0 x1 b n k) + qR r0 b n

include h0 h1 in
theorem least_apply (k : ℕ) (hk : k < 4) (h : S8x4096x4.Slices ![0, 0, k] S8x4096x1) (b : Fin 8) (n : Fin 4096) :
    least k h (four x0 x1) (ix2 b n) = (dist x0 x1 r0 r1 b n ⟨k, by omega⟩ : EReal) := by
  have e : shapeCast S8x4096 (extractStridedSlice S8x4096x1 ![0, 0, k] (four x0 x1) h) shapeCasts_S8x4096x1_S8x4096 (ix2 b n)
      = four x0 x1 (ix3 b n ⟨k, hk⟩) := by
    rw [shapeCast_apply _ shapeCasts_S8x4096x1_S8x4096 (ix2 b n) (ix3 b n 0)
      (by rewrite [Shape.rowMajor_val_three, Shape.rowMajor_val_two]; show (b.val * 4096 + n.val) * 1 + 0 = b.val * 4096 + n.val; omega)]
    exact extractStridedSlice_apply _ _ h (ix3 b n 0) (ix3 b n ⟨k, hk⟩) fun a => match a with
      | ⟨0, _⟩ => (Nat.zero_add _).symm
      | ⟨1, _⟩ => (Nat.zero_add _).symm
      | ⟨2, _⟩ => rfl
  have e4 : four x0 x1 (ix3 b n ⟨k, hk⟩) = -(dist x0 x1 r0 r1 b n ⟨k, by omega⟩ : EReal) :=
    (Order.topK_values sliceFits_S8x4096x1024_S8x4096x4 (Cert.ReferenceIdeal.Read.val_main_v13 (F := Ideal) x0 x1) b n ⟨k, hk⟩
      (by show k < 1024; omega)).trans (v13_apply x0 x1 r0 r1 h0 h1 b n _)
  show -(shapeCast S8x4096 (extractStridedSlice S8x4096x1 ![0, 0, k] (four x0 x1) h) shapeCasts_S8x4096x1_S8x4096 (ix2 b n) : EReal) = _
  rw [e, e4, neg_neg]

theorem inv_apply (s : FVec Ideal S8x4096 .f32) (q m : ℝ) (i : S8x4096.Idx) (h : s i = ((2 * m + q : ℝ) : EReal)) :
    inv s i = (rwt q m : EReal) := by
  show Ideal.div (Ideal.ofBits .f32 0x3F800000#32) (max (max (s i) (Ideal.ofBits .f32 0x00000000#32)) (Ideal.ofBits .f32 0x2EDBE6FF#32)) = _
  rw [h, ofBits_one, ofBits_zero, ofBits_eps, ← EReal.coe_zero, max_coe, max_coe, ← EReal.coe_one, div_coe_coe _ _ (rwt_den_pos _ _).ne']
  rfl

theorem or_one {a b : BitVec 1} (h : IntOp.ori a b = 1#1) : a = 1#1 ∨ b = 1#1 := by
  revert a b
  decide

include h0 h1 in
/-- The tie condition at a target. -/
theorem tie (ht : ∀ i, ties (four x0 x1) i = 1#1) (b : Fin 8) (n : Fin 4096) :
    (dR r0 r1 b n (σ x0 x1 b n 1) < dR r0 r1 b n (σ x0 x1 b n 2) ∧ dR r0 r1 b n (σ x0 x1 b n 2) < dR r0 r1 b n (σ x0 x1 b n 3))
      ∨ tau < rnw (qR r0 b n) (dR r0 r1 b n) (σ x0 x1 b n) 2 := by
  have l0 := least_apply x0 x1 r0 r1 h0 h1 0 (by decide) slices_S8x4096x4_S8x4096x1_0_0_0 b n
  have l1 := least_apply x0 x1 r0 r1 h0 h1 1 (by decide) slices_S8x4096x4_S8x4096x1_0_0_1 b n
  have l2 := least_apply x0 x1 r0 r1 h0 h1 2 (by decide) slices_S8x4096x4_S8x4096x1_0_0_2 b n
  have l3 := least_apply x0 x1 r0 r1 h0 h1 3 (by decide) slices_S8x4096x4_S8x4096x1_0_0_3 b n
  rcases or_one (ht (ix2 b n)) with h | h
  · obtain ⟨ha, hb⟩ := IntOp.andi_eq_one.1 h
    have ha' := ofBool_one (p := least 1 slices_S8x4096x4_S8x4096x1_0_0_1 (four x0 x1) (ix2 b n)
      < least 2 slices_S8x4096x4_S8x4096x1_0_0_2 (four x0 x1) (ix2 b n)) ha
    have hb' := ofBool_one (p := least 2 slices_S8x4096x4_S8x4096x1_0_0_2 (four x0 x1) (ix2 b n)
      < least 3 slices_S8x4096x4_S8x4096x1_0_0_3 (four x0 x1) (ix2 b n)) hb
    rw [l1, l2, EReal.coe_lt_coe_iff] at ha'
    rw [l2, l3, EReal.coe_lt_coe_iff] at hb'
    unfold dist at ha' hb'
    exact Or.inl ⟨lt_of_mul_lt_mul_left (lt_of_add_lt_add_right ha') (by norm_num), lt_of_mul_lt_mul_left (lt_of_add_lt_add_right hb') (by norm_num)⟩
  · have hc := ofBool_one (p := Ideal.div (inv (least 2 slices_S8x4096x4_S8x4096x1_0_0_2 (four x0 x1)) (ix2 b n))
        (inv (least 0 slices_S8x4096x4_S8x4096x1_0_0_0 (four x0 x1)) (ix2 b n) + inv (least 1 slices_S8x4096x4_S8x4096x1_0_0_1 (four x0 x1)) (ix2 b n)
          + inv (least 2 slices_S8x4096x4_S8x4096x1_0_0_2 (four x0 x1)) (ix2 b n)) > Ideal.ofBits .f32 0x3A83126F#32) h
    rw [inv_apply _ _ _ _ l0, inv_apply _ _ _ _ l1, inv_apply _ _ _ _ l2, ofBits_tau, ← EReal.coe_add, ← EReal.coe_add, div_coe_coe] at hc
    · exact Or.inr (EReal.coe_lt_coe_iff.1 hc)
    · exact (add_pos (add_pos (rwt_pos _ _) (rwt_pos _ _)) (rwt_pos _ _)).ne'

end Cert.Pre

end
-- ==== Proof.Final.lean ====
/-
  The two idealized programs end with the same result: the kernel's buffers between its calls, read at an index, against the
  reference's layers.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RegC
public import proofs.«01_k».proof.Proof.Layer2
public import proofs.«01_k».proof.Proof.Pre

@[expose] public section

set_option maxRecDepth 16384

noncomputable section

namespace Cert.Final

open Cert.KernelIdeal Cert.KernelIdeal.Gen Cert.KernelIdeal.Run Cert.Rows Cert.Consts Cert.RefNear Cert.RefBn
open Idealize
open Idealize.ShloMosaic hiding ix1 ix2 ix3 ix4 ix5 eq_ix1 eq_ix2 eq_ix3
open Idealize.ShloMosaic.ValueIdx
open Idealize.ShloMosaic.TcCoe Idealize.ShloMosaic.Tactic
open Idealize.SL Idealize.SL.Sem

variable (m : (ℓ : Loc nD τ sig) → Buf (Elt Ideal) ℓ) (c : Dev nD)

/-! ## The buffers between the calls -/

theorem u1_arg (r : Ref sig .tc) (h : r ∉ hostOps0_W) : U1 m c r = m ((c : Thread nD τ).loc r) := (V1_of m c r h).trans rfl

theorem u2_keep (r : Ref sig .tc) (h : ∀ w, Pipeline.arrRef spec0 w = r → (cfg0.win w).isOut = false) : U2 m c r = U1 m c r :=
  Pipeline.afterRegion_keeps (PassA.dat (U1 m) c) (U1 m c) winFacts0.arr_inj (fun _ => rfl) r h

theorem u3_keep (r : Ref sig .tc) (h : ∀ w, Pipeline.arrRef spec1 w = r → (cfg1.win w).isOut = false) : U3 m c r = U2 m c r :=
  Pipeline.afterRegion_keeps (PassB.dat (U2 m) c) (U2 m c) winFacts1.arr_inj (fun _ => rfl) r h

theorem u1_v0 : U1 m c main_v0 = (extractStridedSlice S256x512 ![0, 0] (m ((c : Thread nD τ).loc main_arg4) : S256x768.Idx → EReal)
    slices_S256x768_S256x512_0_0 : S256x512.Idx → EReal) := by
  show StableHlo.after hostOps0 (V0 m c) (Proc.devRef .tc main_v0) = _
  after_results

theorem u1_v1 : U1 m c main_v1 = (extractStridedSlice S256x256 ![0, 512] (m ((c : Thread nD τ).loc main_arg4) : S256x768.Idx → EReal)
    slices_S256x768_S256x256_0_512 : S256x256.Idx → EReal) := by
  show StableHlo.after hostOps0 (V0 m c) (Proc.devRef .tc main_v1) = _
  after_results

theorem u1_v2 : U1 m c main_v2 = (shapeCast S256x1 (m ((c : Thread nD τ).loc main_arg5) : S256.Idx → EReal) shapeCasts_S256_S256x1
    : S256x1.Idx → EReal) := by
  show StableHlo.after hostOps0 (V0 m c) (Proc.devRef .tc main_v2) = _
  after_results
  rfl

theorem u1_v3 : U1 m c main_v3 = (shapeCast S256x1 (m ((c : Thread nD τ).loc main_arg6) : S256.Idx → EReal) shapeCasts_S256_S256x1
    : S256x1.Idx → EReal) := by
  show StableHlo.after hostOps0 (V0 m c) (Proc.devRef .tc main_v3) = _
  after_results
  rfl

theorem u1_v4 : U1 m c main_v4 = (shapeCast S256x1 (m ((c : Thread nD τ).loc main_arg8) : S256.Idx → EReal) shapeCasts_S256_S256x1
    : S256x1.Idx → EReal) := by
  show StableHlo.after hostOps0 (V0 m c) (Proc.devRef .tc main_v4) = _
  after_results
  rfl

theorem u1_v5 : U1 m c main_v5 = (shapeCast S256x1 (m ((c : Thread nD τ).loc main_arg9) : S256.Idx → EReal) shapeCasts_S256_S256x1
    : S256x1.Idx → EReal) := by
  show StableHlo.after hostOps0 (V0 m c) (Proc.devRef .tc main_v5) = _
  after_results
  rfl

/-- A vector as a column. -/
theorem column_apply (x : S256.Idx → EReal) (o : Fin 256) : shapeCast S256x1 x shapeCasts_S256_S256x1 (ix2 o (0 : Fin 1)) = x (ix1 o) :=
  shapeCast_apply x shapeCasts_S256_S256x1 (ix2 o (0 : Fin 1)) (ix1 o)
    (by rewrite [Shape.rowMajor_val_one, Shape.rowMajor_val_two]; show o.val = o.val * 1 + 0; omega)

theorem partA_apply (x : S256x768.Idx → EReal) (o : Fin 256) (k : Fin 512) :
    extractStridedSlice S256x512 ![0, 0] x slices_S256x768_S256x512_0_0 (ix2 o k) = x (ix2 o (colA k)) :=
  extractStridedSlice_apply _ x slices_S256x768_S256x512_0_0 (ix2 o k) (ix2 o (colA k)) fun a => match a with
    | ⟨0, _⟩ => (Nat.zero_add _).symm
    | ⟨1, _⟩ => (Nat.zero_add _).symm

theorem partB_apply (x : S256x768.Idx → EReal) (o : Fin 256) (k : Fin 256) :
    extractStridedSlice S256x256 ![0, 512] x slices_S256x768_S256x256_0_512 (ix2 o k) = x (ix2 o (colB k)) :=
  extractStridedSlice_apply _ x slices_S256x768_S256x256_0_512 (ix2 o k) (ix2 o (colB k)) fun a => match a with
    | ⟨0, _⟩ => (Nat.zero_add _).symm
    | ⟨1, _⟩ => rfl

/-- The first layer from the arguments, -/
def lin1 (x2 : S8x256x4096.Idx → EReal) (x3 : S8x512x1024.Idx → EReal) (x4 : S256x768.Idx → EReal)
    (near : Fin 8 → Fin 4096 → Fin 1024 → ℝ) : S8x256x4096.Idx → EReal :=
  RegA.linOf (extractStridedSlice S256x512 ![0, 0] x4 slices_S256x768_S256x512_0_0)
    (extractStridedSlice S256x256 ![0, 512] x4 slices_S256x768_S256x256_0_512) x2 x3 near
/-- the second from the first, -/
def lin2 (x5 x6 : S256.Idx → EReal) (x7 : S256x256.Idx → EReal) (y : S8x256x4096.Idx → EReal) : S8x256x4096.Idx → EReal :=
  RegB.linOf x7 (RegB.stats y) (shapeCast S256x1 x5 shapeCasts_S256_S256x1) (shapeCast S256x1 x6 shapeCasts_S256_S256x1) y
/-- and the result from the second. -/
def res (x8 x9 : S256.Idx → EReal) (y : S8x256x4096.Idx → EReal) (b : Fin 8) (o : Fin 256) (n : Fin 4096) : EReal :=
  ReadB.act (∑ b : Fin 8, ∑ n : Fin 4096, y (ix3 b o n)) (∑ b : Fin 8, ∑ n : Fin 4096, y (ix3 b o n) * y (ix3 b o n)) (x8 (ix1 o)) (x9 (ix1 o))
    (y (ix3 b o n))

/-- The two layers from what memory holds. -/
def mem1 (near : Fin 8 → Fin 4096 → Fin 1024 → ℝ) : S8x256x4096.Idx → EReal :=
  lin1 (m ((c : Thread nD τ).loc main_arg2)) (m ((c : Thread nD τ).loc main_arg3)) (m ((c : Thread nD τ).loc main_arg4)) near
def mem2 (near : Fin 8 → Fin 4096 → Fin 1024 → ℝ) : S8x256x4096.Idx → EReal :=
  lin2 (m ((c : Thread nD τ).loc main_arg5)) (m ((c : Thread nD τ).loc main_arg6)) (m ((c : Thread nD τ).loc main_arg7)) (mem1 m c near)

variable (N : RegA.Near (m ((c : Thread nD τ).loc main_arg0)) (m ((c : Thread nD τ).loc main_arg1)))

/-- The orders over the first call's own two arrays. -/
def near1 : RegA.Near (U1 m c main_arg0) (U1 m c main_arg1) where
  q := N.q
  d := N.d
  σ := N.σ
  hq := by rw [u1_arg m c main_arg0 (by decide)]; exact N.hq
  hd := by rw [u1_arg m c main_arg0 (by decide), u1_arg m c main_arg1 (by decide)]; exact N.hd
  hσ := N.hσ
  ht := N.ht

theorem lin_near1 : RegA.lin (W := U1 m) c (near1 m c N) = mem1 m c N.near := by
  unfold RegA.lin mem1 lin1
  rw [u1_v0, u1_v1, u1_arg m c main_arg2 (by decide), u1_arg m c main_arg3 (by decide)]
  rfl

theorem u2_lin : U2 m c main_v6_0 = mem1 m c N.near :=
  (Pipeline.afterRegion_arr (PassA.dat (U1 m) c) (U1 m c) winFacts0.arr_inj 6).trans
    ((RegA.arr_lin c (near1 m c N)).trans (lin_near1 m c N))

theorem u2_stats : U2 m c main_v6_1 = RegB.stats (mem1 m c N.near) :=
  (Pipeline.afterRegion_arr (PassA.dat (U1 m) c) (U1 m c) winFacts0.arr_inj 7).trans
    ((RegA.arr_stats c (near1 m c N)).trans (congrArg RegB.stats (lin_near1 m c N)))

theorem lin_u2 : RegB.lin (U2 m) c = mem2 m c N.near := by
  unfold RegB.lin mem2 lin2
  rw [u2_lin m c N, u2_stats m c N, u2_keep m c main_arg7 (by decide), u2_keep m c main_v2 (by decide), u2_keep m c main_v3 (by decide),
    u1_arg m c main_arg7 (by decide), u1_v2, u1_v3]

theorem u3_lin : U3 m c main_v7_0 = mem2 m c N.near :=
  (Pipeline.afterRegion_arr (PassB.dat (U2 m) c) (U2 m c) winFacts1.arr_inj 5).trans ((RegB.arr_lin (U2 m) c).trans (lin_u2 m c N))

theorem u3_stats : U3 m c main_v7_1 = RegB.stats (mem2 m c N.near) :=
  (Pipeline.afterRegion_arr (PassB.dat (U2 m) c) (U2 m c) winFacts1.arr_inj 6).trans
    ((RegB.arr_stats (U2 m) c).trans (congrArg RegB.stats (lin_u2 m c N)))

/-- The result at an index, from the second layer. -/
theorem u4_apply (b : Fin 8) (o : Fin 256) (n : Fin 4096) : (U4 m c main_v8 : S8x256x4096.Idx → EReal) (ix3 b o n)
    = res (m ((c : Thread nD τ).loc main_arg8)) (m ((c : Thread nD τ).loc main_arg9)) (mem2 m c N.near) b o n := by
  refine (congrFun (RegC.result m c) (ix3 b o n)).trans ?_
  unfold RegC.out
  rw [u3_lin m c N, u3_stats m c N, u3_keep m c main_v4 (by decide), u3_keep m c main_v5 (by decide), u2_keep m c main_v4 (by decide),
    u2_keep m c main_v5 (by decide), u1_v4, u1_v5]
  exact congrArg₂ (fun g s => ReadB.act _ _ g s _) (column_apply _ o) (column_apply _ o)

/-! ## The two results -/

/-- The orders, from what the precondition says. -/
def near (x0 : S8x3x4096.Idx → EReal) (x1 : S8x3x1024.Idx → EReal) (r0 : S8x3x4096.Idx → ℝ) (r1 : S8x3x1024.Idx → ℝ)
    (h0 : ∀ i, x0 i = (r0 i : EReal)) (h1 : ∀ i, x1 i = (r1 i : EReal)) (ht : ∀ i, Pre.ties (Pre.four x0 x1) i = 1#1) : RegA.Near x0 x1 where
  q := qR r0
  d := dR r0 r1
  σ := σ x0 x1
  hq b n := by
    refine (Finset.sum_congr rfl fun k _ => ?_).trans (coe_sum _ _)
    rw [mul_one, h0, EReal.coe_mul]
  hd b n j := by
    have e1 : ∑ k : Fin 3, x1 (ix3 b k j) * x1 (ix3 b k j) = (kR r1 b j : EReal) :=
      (Finset.sum_congr rfl fun k _ => by rw [h1, EReal.coe_mul]).trans (coe_sum _ _)
    have e2 : ∑ k : Fin 3, x0 (ix3 b k n) * x1 (ix3 b k j) = (ip r0 r1 b n j : EReal) :=
      (Finset.sum_congr rfl fun k _ => by rw [h0, h1, EReal.coe_mul]).trans (coe_sum _ _)
    rw [e1, e2, ← EReal.coe_mul, ← EReal.coe_sub]
    rfl
  hσ b n := σ_isOrder x0 x1 r0 r1 h0 h1 b n
  ht b n := Pre.tie x0 x1 r0 r1 h0 h1 ht b n

/-- The kernel's first layer is the real one. -/
theorem first (x0 : S8x3x4096.Idx → EReal) (x1 : S8x3x1024.Idx → EReal) (x2 : S8x256x4096.Idx → EReal)
    (x3 : S8x512x1024.Idx → EReal) (x4 : S256x768.Idx → EReal) (r0 : S8x3x4096.Idx → ℝ) (r1 : S8x3x1024.Idx → ℝ)
    (r2 : S8x256x4096.Idx → ℝ) (r3 : S8x512x1024.Idx → ℝ) (r4 : S256x768.Idx → ℝ) (h0 : ∀ i, x0 i = (r0 i : EReal))
    (h1 : ∀ i, x1 i = (r1 i : EReal)) (h2 : ∀ i, x2 i = (r2 i : EReal)) (h3 : ∀ i, x3 i = (r3 i : EReal)) (h4 : ∀ i, x4 i = (r4 i : EReal))
    (ht : ∀ i, Pre.ties (Pre.four x0 x1) i = 1#1) (b : Fin 8) (o : Fin 256) (n : Fin 4096) :
    lin1 x2 x3 x4 (near x0 x1 r0 r1 h0 h1 ht).near (ix3 b o n) = (layer1 x0 x1 r0 r1 r2 r3 r4 b o n : EReal) := by
  have e : (near x0 x1 r0 r1 h0 h1 ht).near = fun b n => nearRow (qR r0 b n) (dR r0 r1 b n) (σ x0 x1 b n) := by
    funext b n
    unfold RegA.Near.near near
    dsimp only
  rw [e]
  unfold lin1
  exact linOf_apply x0 x1 x2 x3 x4 r0 r1 r2 r3 r4 h2 h3 h4 (extractStridedSlice S256x512 ![0, 0] x4 slices_S256x768_S256x512_0_0)
    (extractStridedSlice S256x256 ![0, 512] x4 slices_S256x768_S256x256_0_512) (partA_apply x4) (partB_apply x4) b o n

/-- From an equal first layer on, the kernel's layers are the reference's. -/
theorem tail (x0 : S8x3x4096.Idx → EReal) (x1 : S8x3x1024.Idx → EReal) (x2 : S8x256x4096.Idx → EReal)
    (x3 : S8x512x1024.Idx → EReal) (x4 : S256x768.Idx → EReal) (x5 x6 : S256.Idx → EReal) (x7 : S256x256.Idx → EReal)
    (x8 x9 : S256.Idx → EReal) (r5 r6 : S256.Idx → ℝ) (r7 : S256x256.Idx → ℝ) (r8 : S256.Idx → ℝ) (h5 : ∀ i, x5 i = (r5 i : EReal))
    (h6 : ∀ i, x6 i = (r6 i : EReal)) (h7 : ∀ i, x7 i = (r7 i : EReal)) (h8 : ∀ i, x8 i = (r8 i : EReal))
    (y : Fin 8 → Fin 256 → Fin 4096 → ℝ) (y1 : S8x256x4096.Idx → EReal) (k1 : ∀ b o n, y1 (ix3 b o n) = (y b o n : EReal))
    (k1' : ∀ b o n, Cert.ReferenceIdeal.Read.val_main_v34 (F := Ideal) x0 x1 x2 x3 x4 (ix3 b o n) = (y b o n : EReal))
    (b : Fin 8) (o : Fin 256) (n : Fin 4096) : res x8 x9 (lin2 x5 x6 x7 y1) b o n
      = Cert.ReferenceIdeal.Read.val_main_v74 (F := Ideal) x0 x1 x2 x3 x4 x5 x6 x7 x8 x9 (ix3 b o n) := by
  have k2 : ∀ b o n, lin2 x5 x6 x7 y1 (ix3 b o n) = (Layer2.layer2 r5 r6 r7 y b o n : EReal) := fun b o n =>
    Layer2.kernel_apply r5 r6 r7 y x7 h7 y1 k1 _ _ (fun k => (column_apply x5 k).trans (h5 _)) (fun k => (column_apply x6 k).trans (h6 _)) b o n
  refine Eq.trans ?_ (Layer2.v74_apply x0 x1 x2 x3 x4 x5 x6 x7 x8 x9 r8 h8 _
    (Layer2.v55_apply r5 r6 r7 y x0 x1 x2 x3 x4 x5 x6 x7 h5 h6 h7 k1') b o n).symm
  unfold res
  rw [h8]
  exact act_eq k2 (r8 (ix1 o)) (x9 (ix1 o)) b o n

/-- Under the precondition the kernel's layers give the reference's result, -/
theorem value_of (x0 : S8x3x4096.Idx → EReal) (x1 : S8x3x1024.Idx → EReal) (x2 : S8x256x4096.Idx → EReal)
    (x3 : S8x512x1024.Idx → EReal) (x4 : S256x768.Idx → EReal) (x5 x6 : S256.Idx → EReal) (x7 : S256x256.Idx → EReal)
    (x8 x9 : S256.Idx → EReal) (hp : Cert.Pre_ties_show.fn (F := Ideal) x0 x1 x2 x3 x4 x5 x6 x7 x8 x9 = fun _ => 1#1) :
    ∃ N : RegA.Near x0 x1, ∀ b o n, res x8 x9 (lin2 x5 x6 x7 (lin1 x2 x3 x4 N.near)) b o n
      = Cert.ReferenceIdeal.Read.val_main_v74 (F := Ideal) x0 x1 x2 x3 x4 x5 x6 x7 x8 x9 (ix3 b o n) := by
  obtain ⟨ht, ⟨r0, h0⟩, ⟨r1, h1⟩, ⟨r2, h2⟩, ⟨r3, h3⟩, ⟨r4, h4⟩, ⟨r5, h5⟩, ⟨r6, h6⟩, ⟨r7, h7⟩, ⟨r8, h8⟩⟩ :=
    Pre.reals x0 x1 x2 x3 x4 x5 x6 x7 x8 x9 hp
  exact ⟨near x0 x1 r0 r1 h0 h1 ht, tail x0 x1 x2 x3 x4 x5 x6 x7 x8 x9 r5 r6 r7 r8 h5 h6 h7 h8 (layer1 x0 x1 r0 r1 r2 r3 r4) _
    (first x0 x1 x2 x3 x4 r0 r1 r2 r3 r4 h0 h1 h2 h3 h4 ht) (v34_apply x0 x1 x2 x3 x4 r0 r1 r2 r3 r4 h0 h1 h2 h3 h4)⟩

/-- and so what memory holds after the kernel is the reference's result of the same arguments. -/
theorem value (hp : Cert.Pre_ties_show.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) = fun _ => 1#1) :
    U4 m c main_v8 = Cert.ReferenceIdeal.Read.val_main_v74 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  obtain ⟨N, h⟩ := value_of _ _ _ _ _ _ _ _ _ _ hp
  refine funext fun (i : S8x256x4096.Idx) => ?_
  refine (congrArg (U4 m c main_v8 : S8x256x4096.Idx → EReal) (eq_ix3 i)).trans (((u4_apply m c N (i 0) (i 1) (i 2)).trans (h _ _ _)).trans ?_)
  exact congrArg (Cert.ReferenceIdeal.Read.val_main_v74 (F := Ideal) _ _ _ _ _ _ _ _ _ _) (eq_ix3 i).symm

end Cert.Final

end
-- ==== Proof.Algebraic.lean ====
/-
  The value claim: from memories with the same arguments, of which the predicate holds, the two idealized programs end with
  the same result.
-/
module

public import proofs.«01_k».proof.Proof.Final

@[expose] public section

set_option maxRecDepth 16384

noncomputable section

namespace Cert.Proof

open Idealize Idealize.ShloMosaic Idealize.ShloMosaic.TcCoe Idealize.SL.Sem

/-- The reference's result from the contents its buffers are launched with. -/
def refResult (m' : (ℓ : Loc Cert.ReferenceIdeal.nD Cert.ReferenceIdeal.τ Cert.ReferenceIdeal.sig) → Buf (Elt Ideal) ℓ)
    (c : Dev Cert.ReferenceIdeal.nD) : Cert.ReferenceIdeal.S8x256x4096.Idx → EReal :=
  Cert.ReferenceIdeal.Read.val_main_v74 (F := Ideal) (m' (c.tc.loc Cert.ReferenceIdeal.main_arg0)) (m' (c.tc.loc Cert.ReferenceIdeal.main_arg1))
    (m' (c.tc.loc Cert.ReferenceIdeal.main_arg2)) (m' (c.tc.loc Cert.ReferenceIdeal.main_arg3)) (m' (c.tc.loc Cert.ReferenceIdeal.main_arg4))
    (m' (c.tc.loc Cert.ReferenceIdeal.main_arg5)) (m' (c.tc.loc Cert.ReferenceIdeal.main_arg6)) (m' (c.tc.loc Cert.ReferenceIdeal.main_arg7))
    (m' (c.tc.loc Cert.ReferenceIdeal.main_arg8)) (m' (c.tc.loc Cert.ReferenceIdeal.main_arg9))

/-- With equal arguments, of which the predicate holds, it is what the kernel leaves. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_ties_show (hPre_ties_show := Cert.Pre_ties_show.Gen.facts) m)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)
      ∧ m' (c.tc.loc Cert.ReferenceIdeal.main_arg6) = m (c.tc.loc Cert.KernelIdeal.main_arg6)
      ∧ m' (c.tc.loc Cert.ReferenceIdeal.main_arg7) = m (c.tc.loc Cert.KernelIdeal.main_arg7)
      ∧ m' (c.tc.loc Cert.ReferenceIdeal.main_arg8) = m (c.tc.loc Cert.KernelIdeal.main_arg8)
      ∧ m' (c.tc.loc Cert.ReferenceIdeal.main_arg9) = m (c.tc.loc Cert.KernelIdeal.main_arg9)) :
    refResult m' c = Cert.KernelIdeal.Run.U4 m c Cert.KernelIdeal.main_v8 := by
  obtain ⟨e0, e1, e2, e3, e4, e5, e6, e7, e8, e9⟩ := h
  refine Eq.trans ?_ (Cert.Final.value m c (hp c)).symm
  unfold refResult
  rw [e0, e1, e2, e3, e4, e5, e6, e7, e8, e9]

/-- The value claim. -/
theorem algebraic : Cert.algebraic_KernelIdeal_ReferenceIdeal_pre_ties_show (hKernelIdeal := Cert.KernelIdeal.Gen.facts)
    (hReferenceIdeal := Cert.ReferenceIdeal.Gen.facts) (hPre_ties_show := Cert.Pre_ties_show.Gen.facts) := fun m g m' g' hp he =>
  ⟨fun c => Cert.KernelIdeal.Run.U4 m c Cert.KernelIdeal.main_v8,
    (θ_run (Cert.KernelIdeal.defs (F := Ideal)) _ _).mono (fun _ h => h.1) (Cert.KernelIdeal.Run.run (F := Ideal) m g),
    (θ_run (Cert.ReferenceIdeal.defs (F := Ideal)) _ _).mono
      (fun r h c => ⟨((h c).1.trans (Cert.ReferenceIdeal.Read.val_main_v74_eq _)).trans (result_eq m m' c hp (he c)), (h c).2⟩)
      (Cert.ReferenceIdeal.Value.run m' g')⟩

end Cert.Proof

end
-- ==== Proof.lean ====
/-
  The proof of `Cert.Claim`: the frames of the three programs, the ledger of the named constant, and the equality of the two
  idealized programs' results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_ties_show
public import proofs.«01_k».proof.Proof.Frames
public import proofs.«01_k».proof.Proof.Algebraic
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ties_show.Gen.facts,
  frame_kernel, frame_ideal, fun m g _ => frame_ideal m g trivial, frame_reference, fun m g _ => frame_reference m g trivial, preserves,
  algebraic⟩

end Cert.Proof

end
